-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S_ : Shape := ⟨0, ![]⟩
abbrev S22 : Shape := ⟨1, ![22]⟩
abbrev S16 : Shape := ⟨1, ![16]⟩
abbrev S5 : Shape := ⟨1, ![5]⟩
abbrev S1x4096x1024 : Shape := ⟨3, ![1, 4096, 1024]⟩
abbrev S1 : Shape := ⟨1, ![1]⟩
abbrev S256x256 : Shape := ⟨2, ![256, 256]⟩
abbrev S1x256x256 : Shape := ⟨3, ![1, 256, 256]⟩
abbrev S256x1024 : Shape := ⟨2, ![256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let c0_i32_22 : BitVec 32 := 0#32
  let c0_i32_23 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v40 : BitVec 32 := Scalar.muli v5 c1024_i32
  ![0, 0, v40.toNat]
def k0_dev1 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v44 : BitVec 32 := Scalar.muli v2 c8_i32_25
  let v45 : BitVec 32 := Scalar.addi c0_i32_26 v44
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_27 : BitVec 32 := 4#32
  let v46 : BitVec 32 := Scalar.muli v19 c4_i32_27
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v48 : BitVec 32 := Scalar.muli v8 c1_i32_28
  let v49 : BitVec 32 := Scalar.addi v47 v48
  v49.toNat
def k0_dev2 (d0 : Dev nD) : Nat :=
  let c0_i32_31 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_30 : BitVec 32 := 8#32
  let v50 : BitVec 32 := Scalar.muli v20 c8_i32_30
  let v51 : BitVec 32 := Scalar.addi c0_i32_31 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v52 : BitVec 32 := Scalar.muli v5 c4_i32_32
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v54 : BitVec 32 := Scalar.muli v8 c1_i32_33
  let v55 : BitVec 32 := Scalar.addi v53 v54
  v55.toNat
def k0_dev3 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v56 : BitVec 32 := Scalar.muli v2 c8_i32_35
  let v57 : BitVec 32 := Scalar.addi c0_i32_36 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_37 : BitVec 32 := 4#32
  let v58 : BitVec 32 := Scalar.muli v5 c4_i32_37
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_38 : BitVec 32 := 1#32
  let v60 : BitVec 32 := Scalar.muli v23 c1_i32_38
  let v61 : BitVec 32 := Scalar.addi v59 v60
  v61.toNat
def k0_off2 (d0 : Dev nD) : Fin 2 → Nat :=
  let c0_i32_48 : BitVec 32 := 0#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![0, v26.toNat]
def k0_off3 (d0 : Dev nD) : Fin 3 → Nat :=
  let c0_i32_41 : BitVec 32 := 0#32
  let c0_i32_49 : BitVec 32 := 0#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v64 : BitVec 32 := Scalar.addi v63 v26
  ![0, 0, v64.toNat]
def k0_dev4 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v65 : BitVec 32 := Scalar.muli v2 c8_i32_44
  let v66 : BitVec 32 := Scalar.addi c0_i32_45 v65
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_46 : BitVec 32 := 4#32
  let v67 : BitVec 32 := Scalar.muli v19 c4_i32_46
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v69 : BitVec 32 := Scalar.muli v8 c1_i32_47
  let v70 : BitVec 32 := Scalar.addi v68 v69
  v70.toNat
def k0_off4 (d0 : Dev nD) : Fin 2 → Nat :=
  let c256_i32_57 : BitVec 32 := 256#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![256, v26.toNat]
def k0_off5 (d0 : Dev nD) : Fin 3 → Nat :=
  let c0_i32_50 : BitVec 32 := 0#32
  let c256_i32_58 : BitVec 32 := 256#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v78 : BitVec 32 := Scalar.addi v63 v26
  ![0, 256, v78.toNat]
def k0_dev5 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v79 : BitVec 32 := Scalar.muli v2 c8_i32_53
  let v80 : BitVec 32 := Scalar.addi c0_i32_54 v79
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_55 : BitVec 32 := 4#32
  let v81 : BitVec 32 := Scalar.muli v19 c4_i32_55
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v83 : BitVec 32 := Scalar.muli v8 c1_i32_56
  let v84 : BitVec 32 := Scalar.addi v82 v83
  v84.toNat
def k0_off6 (d0 : Dev nD) : Fin 2 → Nat :=
  let c512_i32 : BitVec 32 := 512#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![512, v26.toNat]
def k0_off7 (d0 : Dev nD) : Fin 3 → Nat :=
  let c0_i32_59 : BitVec 32 := 0#32
  let c512_i32_66 : BitVec 32 := 512#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v92 : BitVec 32 := Scalar.addi v63 v26
  ![0, 512, v92.toNat]
def k0_dev6 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v93 : BitVec 32 := Scalar.muli v2 c8_i32_62
  let v94 : BitVec 32 := Scalar.addi c0_i32_63 v93
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_64 : BitVec 32 := 4#32
  let v95 : BitVec 32 := Scalar.muli v19 c4_i32_64
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v97 : BitVec 32 := Scalar.muli v8 c1_i32_65
  let v98 : BitVec 32 := Scalar.addi v96 v97
  v98.toNat
def k0_off8 (d0 : Dev nD) : Fin 2 → Nat :=
  let c768_i32 : BitVec 32 := 768#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![768, v26.toNat]
def k0_off9 (d0 : Dev nD) : Fin 3 → Nat :=
  let c0_i32_67 : BitVec 32 := 0#32
  let c768_i32_74 : BitVec 32 := 768#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v106 : BitVec 32 := Scalar.addi v63 v26
  ![0, 768, v106.toNat]
def k0_dev7 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v107 : BitVec 32 := Scalar.muli v2 c8_i32_70
  let v108 : BitVec 32 := Scalar.addi c0_i32_71 v107
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_72 : BitVec 32 := 4#32
  let v109 : BitVec 32 := Scalar.muli v19 c4_i32_72
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v111 : BitVec 32 := Scalar.muli v8 c1_i32_73
  let v112 : BitVec 32 := Scalar.addi v110 v111
  v112.toNat
def k0_off10 (d0 : Dev nD) : Fin 2 → Nat :=
  let c1024_i32_82 : BitVec 32 := 1024#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![1024, v26.toNat]
def k0_off11 (d0 : Dev nD) : Fin 3 → Nat :=
  let c0_i32_75 : BitVec 32 := 0#32
  let c1024_i32_83 : BitVec 32 := 1024#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v120 : BitVec 32 := Scalar.addi v63 v26
  ![0, 1024, v120.toNat]
def k0_dev8 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v121 : BitVec 32 := Scalar.muli v2 c8_i32_78
  let v122 : BitVec 32 := Scalar.addi c0_i32_79 v121
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_80 : BitVec 32 := 4#32
  let v123 : BitVec 32 := Scalar.muli v19 c4_i32_80
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v125 : BitVec 32 := Scalar.muli v8 c1_i32_81
  let v126 : BitVec 32 := Scalar.addi v124 v125
  v126.toNat
def k0_off12 (d0 : Dev nD) : Fin 2 → Nat :=
  let c1280_i32 : BitVec 32 := 1280#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![1280, v26.toNat]
def k0_off13 (d0 : Dev nD) : Fin 3 → Nat :=
  let c0_i32_84 : BitVec 32 := 0#32
  let c1280_i32_90 : BitVec 32 := 1280#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v134 : BitVec 32 := Scalar.addi v63 v26
  ![0, 1280, v134.toNat]
def k0_dev9 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v135 : BitVec 32 := Scalar.muli v2 c8_i32_86
  let v136 : BitVec 32 := Scalar.addi c0_i32_87 v135
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_88 : BitVec 32 := 4#32
  let v137 : BitVec 32 := Scalar.muli v19 c4_i32_88
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v139 : BitVec 32 := Scalar.muli v8 c1_i32_89
  let v140 : BitVec 32 := Scalar.addi v138 v139
  v140.toNat
def k0_off14 (d0 : Dev nD) : Fin 2 → Nat :=
  let c1536_i32 : BitVec 32 := 1536#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![1536, v26.toNat]
def k0_off15 (d0 : Dev nD) : Fin 3 → Nat :=
  let c0_i32_91 : BitVec 32 := 0#32
  let c1536_i32_97 : BitVec 32 := 1536#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v148 : BitVec 32 := Scalar.addi v63 v26
  ![0, 1536, v148.toNat]
def k0_dev10 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v149 : BitVec 32 := Scalar.muli v2 c8_i32_93
  let v150 : BitVec 32 := Scalar.addi c0_i32_94 v149
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_95 : BitVec 32 := 4#32
  let v151 : BitVec 32 := Scalar.muli v19 c4_i32_95
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v153 : BitVec 32 := Scalar.muli v8 c1_i32_96
  let v154 : BitVec 32 := Scalar.addi v152 v153
  v154.toNat
def k0_off16 (d0 : Dev nD) : Fin 2 → Nat :=
  let c1792_i32 : BitVec 32 := 1792#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![1792, v26.toNat]
def k0_off17 (d0 : Dev nD) : Fin 3 → Nat :=
  let c0_i32_98 : BitVec 32 := 0#32
  let c1792_i32_104 : BitVec 32 := 1792#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v162 : BitVec 32 := Scalar.addi v63 v26
  ![0, 1792, v162.toNat]
def k0_dev11 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v163 : BitVec 32 := Scalar.muli v2 c8_i32_100
  let v164 : BitVec 32 := Scalar.addi c0_i32_101 v163
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_102 : BitVec 32 := 4#32
  let v165 : BitVec 32 := Scalar.muli v19 c4_i32_102
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v167 : BitVec 32 := Scalar.muli v8 c1_i32_103
  let v168 : BitVec 32 := Scalar.addi v166 v167
  v168.toNat
def k0_off18 (d0 : Dev nD) : Fin 2 → Nat :=
  let c2048_i32 : BitVec 32 := 2048#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![2048, v26.toNat]
def k0_off19 (d0 : Dev nD) : Fin 3 → Nat :=
  let c0_i32_105 : BitVec 32 := 0#32
  let c2048_i32_112 : BitVec 32 := 2048#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v176 : BitVec 32 := Scalar.addi v63 v26
  ![0, 2048, v176.toNat]
def k0_dev12 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v177 : BitVec 32 := Scalar.muli v2 c8_i32_108
  let v178 : BitVec 32 := Scalar.addi c0_i32_109 v177
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_110 : BitVec 32 := 4#32
  let v179 : BitVec 32 := Scalar.muli v19 c4_i32_110
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v181 : BitVec 32 := Scalar.muli v8 c1_i32_111
  let v182 : BitVec 32 := Scalar.addi v180 v181
  v182.toNat
def k0_off20 (d0 : Dev nD) : Fin 2 → Nat :=
  let c2304_i32 : BitVec 32 := 2304#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![2304, v26.toNat]
def k0_off21 (d0 : Dev nD) : Fin 3 → Nat :=
  let c0_i32_113 : BitVec 32 := 0#32
  let c2304_i32_119 : BitVec 32 := 2304#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v190 : BitVec 32 := Scalar.addi v63 v26
  ![0, 2304, v190.toNat]
def k0_dev13 (d0 : Dev nD) : Nat :=
  let c0_i32_116 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_115 : BitVec 32 := 8#32
  let v191 : BitVec 32 := Scalar.muli v2 c8_i32_115
  let v192 : BitVec 32 := Scalar.addi c0_i32_116 v191
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_117 : BitVec 32 := 4#32
  let v193 : BitVec 32 := Scalar.muli v19 c4_i32_117
  let v194 : BitVec 32 := Scalar.addi v192 v193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v195 : BitVec 32 := Scalar.muli v8 c1_i32_118
  let v196 : BitVec 32 := Scalar.addi v194 v195
  v196.toNat
def k0_off22 (d0 : Dev nD) : Fin 2 → Nat :=
  let c2560_i32 : BitVec 32 := 2560#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![2560, v26.toNat]
def k0_off23 (d0 : Dev nD) : Fin 3 → Nat :=
  let c0_i32_120 : BitVec 32 := 0#32
  let c2560_i32_126 : BitVec 32 := 2560#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v204 : BitVec 32 := Scalar.addi v63 v26
  ![0, 2560, v204.toNat]
def k0_dev14 (d0 : Dev nD) : Nat :=
  let c0_i32_123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_122 : BitVec 32 := 8#32
  let v205 : BitVec 32 := Scalar.muli v2 c8_i32_122
  let v206 : BitVec 32 := Scalar.addi c0_i32_123 v205
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_124 : BitVec 32 := 4#32
  let v207 : BitVec 32 := Scalar.muli v19 c4_i32_124
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v209 : BitVec 32 := Scalar.muli v8 c1_i32_125
  let v210 : BitVec 32 := Scalar.addi v208 v209
  v210.toNat
def k0_off24 (d0 : Dev nD) : Fin 2 → Nat :=
  let c2816_i32 : BitVec 32 := 2816#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![2816, v26.toNat]
def k0_off25 (d0 : Dev nD) : Fin 3 → Nat :=
  let c0_i32_127 : BitVec 32 := 0#32
  let c2816_i32_133 : BitVec 32 := 2816#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v218 : BitVec 32 := Scalar.addi v63 v26
  ![0, 2816, v218.toNat]
def k0_dev15 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v219 : BitVec 32 := Scalar.muli v2 c8_i32_129
  let v220 : BitVec 32 := Scalar.addi c0_i32_130 v219
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_131 : BitVec 32 := 4#32
  let v221 : BitVec 32 := Scalar.muli v19 c4_i32_131
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v223 : BitVec 32 := Scalar.muli v8 c1_i32_132
  let v224 : BitVec 32 := Scalar.addi v222 v223
  v224.toNat
def k0_off26 (d0 : Dev nD) : Fin 2 → Nat :=
  let c3072_i32 : BitVec 32 := 3072#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![3072, v26.toNat]
def k0_off27 (d0 : Dev nD) : Fin 3 → Nat :=
  let c0_i32_134 : BitVec 32 := 0#32
  let c3072_i32_140 : BitVec 32 := 3072#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v232 : BitVec 32 := Scalar.addi v63 v26
  ![0, 3072, v232.toNat]
def k0_dev16 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v233 : BitVec 32 := Scalar.muli v2 c8_i32_136
  let v234 : BitVec 32 := Scalar.addi c0_i32_137 v233
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_138 : BitVec 32 := 4#32
  let v235 : BitVec 32 := Scalar.muli v19 c4_i32_138
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v237 : BitVec 32 := Scalar.muli v8 c1_i32_139
  let v238 : BitVec 32 := Scalar.addi v236 v237
  v238.toNat
def k0_off28 (d0 : Dev nD) : Fin 2 → Nat :=
  let c3328_i32 : BitVec 32 := 3328#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![3328, v26.toNat]
def k0_off29 (d0 : Dev nD) : Fin 3 → Nat :=
  let c0_i32_141 : BitVec 32 := 0#32
  let c3328_i32_147 : BitVec 32 := 3328#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v246 : BitVec 32 := Scalar.addi v63 v26
  ![0, 3328, v246.toNat]
def k0_dev17 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v247 : BitVec 32 := Scalar.muli v2 c8_i32_143
  let v248 : BitVec 32 := Scalar.addi c0_i32_144 v247
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_145 : BitVec 32 := 4#32
  let v249 : BitVec 32 := Scalar.muli v19 c4_i32_145
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v251 : BitVec 32 := Scalar.muli v8 c1_i32_146
  let v252 : BitVec 32 := Scalar.addi v250 v251
  v252.toNat
def k0_off30 (d0 : Dev nD) : Fin 2 → Nat :=
  let c3584_i32 : BitVec 32 := 3584#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![3584, v26.toNat]
def k0_off31 (d0 : Dev nD) : Fin 3 → Nat :=
  let c0_i32_148 : BitVec 32 := 0#32
  let c3584_i32_154 : BitVec 32 := 3584#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v260 : BitVec 32 := Scalar.addi v63 v26
  ![0, 3584, v260.toNat]
def k0_dev18 (d0 : Dev nD) : Nat :=
  let c0_i32_151 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_150 : BitVec 32 := 8#32
  let v261 : BitVec 32 := Scalar.muli v2 c8_i32_150
  let v262 : BitVec 32 := Scalar.addi c0_i32_151 v261
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_152 : BitVec 32 := 4#32
  let v263 : BitVec 32 := Scalar.muli v19 c4_i32_152
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v265 : BitVec 32 := Scalar.muli v8 c1_i32_153
  let v266 : BitVec 32 := Scalar.addi v264 v265
  v266.toNat
def k0_off32 (d0 : Dev nD) : Fin 2 → Nat :=
  let c3840_i32 : BitVec 32 := 3840#32
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  ![3840, v26.toNat]
def k0_off33 (d0 : Dev nD) : Fin 3 → Nat :=
  let c0_i32_155 : BitVec 32 := 0#32
  let c3840_i32_161 : BitVec 32 := 3840#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.addi v24 v2
  let c256_i32 : BitVec 32 := 256#32
  let v26 : BitVec 32 := Scalar.muli v25 c256_i32
  let v274 : BitVec 32 := Scalar.addi v63 v26
  ![0, 3840, v274.toNat]
def k0_dev19 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v275 : BitVec 32 := Scalar.muli v2 c8_i32_157
  let v276 : BitVec 32 := Scalar.addi c0_i32_158 v275
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_159 : BitVec 32 := 4#32
  let v277 : BitVec 32 := Scalar.muli v19 c4_i32_159
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v279 : BitVec 32 := Scalar.muli v8 c1_i32_160
  let v280 : BitVec 32 := Scalar.addi v278 v279
  v280.toNat
def k0_off34 (d0 : Dev nD) : Fin 2 → Nat :=
  let c0_i32_168 : BitVec 32 := 0#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![0, v39.toNat]
def k0_off35 (d0 : Dev nD) : Fin 3 → Nat :=
  let c0_i32_162 : BitVec 32 := 0#32
  let c0_i32_169 : BitVec 32 := 0#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  let v288 : BitVec 32 := Scalar.addi v63 v39
  ![0, 0, v288.toNat]
def k0_dev20 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v289 : BitVec 32 := Scalar.muli v2 c8_i32_164
  let v290 : BitVec 32 := Scalar.addi c0_i32_165 v289
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_166 : BitVec 32 := 4#32
  let v291 : BitVec 32 := Scalar.muli v19 c4_i32_166
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v293 : BitVec 32 := Scalar.muli v8 c1_i32_167
  let v294 : BitVec 32 := Scalar.addi v292 v293
  v294.toNat
def k0_off36 (d0 : Dev nD) : Fin 2 → Nat :=
  let c256_i32_176 : BitVec 32 := 256#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![256, v39.toNat]
def k0_off37 (d0 : Dev nD) : Fin 3 → Nat :=
  let c0_i32_170 : BitVec 32 := 0#32
  let c256_i32_177 : BitVec 32 := 256#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  let v302 : BitVec 32 := Scalar.addi v63 v39
  ![0, 256, v302.toNat]
def k0_dev21 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v303 : BitVec 32 := Scalar.muli v2 c8_i32_172
  let v304 : BitVec 32 := Scalar.addi c0_i32_173 v303
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_174 : BitVec 32 := 4#32
  let v305 : BitVec 32 := Scalar.muli v19 c4_i32_174
  let v306 : BitVec 32 := Scalar.addi v304 v305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v307 : BitVec 32 := Scalar.muli v8 c1_i32_175
  let v308 : BitVec 32 := Scalar.addi v306 v307
  v308.toNat
def k0_off38 (d0 : Dev nD) : Fin 2 → Nat :=
  let c512_i32_184 : BitVec 32 := 512#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![512, v39.toNat]
def k0_off39 (d0 : Dev nD) : Fin 3 → Nat :=
  let c0_i32_178 : BitVec 32 := 0#32
  let c512_i32_185 : BitVec 32 := 512#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  let v316 : BitVec 32 := Scalar.addi v63 v39
  ![0, 512, v316.toNat]
def k0_dev22 (d0 : Dev nD) : Nat :=
  let c0_i32_181 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_180 : BitVec 32 := 8#32
  let v317 : BitVec 32 := Scalar.muli v2 c8_i32_180
  let v318 : BitVec 32 := Scalar.addi c0_i32_181 v317
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_182 : BitVec 32 := 4#32
  let v319 : BitVec 32 := Scalar.muli v19 c4_i32_182
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v321 : BitVec 32 := Scalar.muli v8 c1_i32_183
  let v322 : BitVec 32 := Scalar.addi v320 v321
  v322.toNat
def k0_off40 (d0 : Dev nD) : Fin 2 → Nat :=
  let c768_i32_192 : BitVec 32 := 768#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![768, v39.toNat]
def k0_off41 (d0 : Dev nD) : Fin 3 → Nat :=
  let c0_i32_186 : BitVec 32 := 0#32
  let c768_i32_193 : BitVec 32 := 768#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  let v330 : BitVec 32 := Scalar.addi v63 v39
  ![0, 768, v330.toNat]
def k0_dev23 (d0 : Dev nD) : Nat :=
  let c0_i32_189 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_188 : BitVec 32 := 8#32
  let v331 : BitVec 32 := Scalar.muli v2 c8_i32_188
  let v332 : BitVec 32 := Scalar.addi c0_i32_189 v331
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_190 : BitVec 32 := 4#32
  let v333 : BitVec 32 := Scalar.muli v19 c4_i32_190
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v335 : BitVec 32 := Scalar.muli v8 c1_i32_191
  let v336 : BitVec 32 := Scalar.addi v334 v335
  v336.toNat
def k0_off42 (d0 : Dev nD) : Fin 2 → Nat :=
  let c1024_i32_200 : BitVec 32 := 1024#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![1024, v39.toNat]
def k0_off43 (d0 : Dev nD) : Fin 3 → Nat :=
  let c0_i32_194 : BitVec 32 := 0#32
  let c1024_i32_201 : BitVec 32 := 1024#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  let v344 : BitVec 32 := Scalar.addi v63 v39
  ![0, 1024, v344.toNat]
def k0_dev24 (d0 : Dev nD) : Nat :=
  let c0_i32_197 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_196 : BitVec 32 := 8#32
  let v345 : BitVec 32 := Scalar.muli v2 c8_i32_196
  let v346 : BitVec 32 := Scalar.addi c0_i32_197 v345
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_198 : BitVec 32 := 4#32
  let v347 : BitVec 32 := Scalar.muli v19 c4_i32_198
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_199 : BitVec 32 := 1#32
  let v349 : BitVec 32 := Scalar.muli v8 c1_i32_199
  let v350 : BitVec 32 := Scalar.addi v348 v349
  v350.toNat
def k0_off44 (d0 : Dev nD) : Fin 2 → Nat :=
  let c1280_i32_208 : BitVec 32 := 1280#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![1280, v39.toNat]
def k0_off45 (d0 : Dev nD) : Fin 3 → Nat :=
  let c0_i32_202 : BitVec 32 := 0#32
  let c1280_i32_209 : BitVec 32 := 1280#32
  let c1_i32_39 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v62 : BitVec 32 := Scalar.subi c1_i32_39 v5
  let c1024_i32_40 : BitVec 32 := 1024#32
  let v63 : BitVec 32 := Scalar.muli v62 c1024_i32_40
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  let v358 : BitVec 32 := Scalar.addi v63 v39
  ![0, 1280, v358.toNat]
def k0_dev25 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_204 : BitVec 32 := 8#32
  let v359 : BitVec 32 := Scalar.muli v2 c8_i32_204
  let v360 : BitVec 32 := Scalar.addi c0_i32_205 v359
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_206 : BitVec 32 := 4#32
  let v361 : BitVec 32 := Scalar.muli v19 c4_i32_206
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v363 : BitVec 32 := Scalar.muli v8 c1_i32_207
  let v364 : BitVec 32 := Scalar.addi v362 v363
  v364.toNat
def k0_dev26 (d0 : Dev nD) : Nat :=
  let c0_i32_222 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_221 : BitVec 32 := 8#32
  let v383 : BitVec 32 := Scalar.muli v20 c8_i32_221
  let v384 : BitVec 32 := Scalar.addi c0_i32_222 v383
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_223 : BitVec 32 := 4#32
  let v385 : BitVec 32 := Scalar.muli v5 c4_i32_223
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v387 : BitVec 32 := Scalar.muli v8 c1_i32_224
  let v388 : BitVec 32 := Scalar.addi v386 v387
  v388.toNat
def k0_dev27 (d0 : Dev nD) : Nat :=
  let c0_i32_230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_229 : BitVec 32 := 8#32
  let v395 : BitVec 32 := Scalar.muli v2 c8_i32_229
  let v396 : BitVec 32 := Scalar.addi c0_i32_230 v395
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_231 : BitVec 32 := 4#32
  let v397 : BitVec 32 := Scalar.muli v5 c4_i32_231
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_232 : BitVec 32 := 1#32
  let v399 : BitVec 32 := Scalar.muli v23 c1_i32_232
  let v400 : BitVec 32 := Scalar.addi v398 v399
  v400.toNat
def k0_dev28 (d0 : Dev nD) : Nat :=
  let c0_i32_247 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_246 : BitVec 32 := 8#32
  let v418 : BitVec 32 := Scalar.muli v20 c8_i32_246
  let v419 : BitVec 32 := Scalar.addi c0_i32_247 v418
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_248 : BitVec 32 := 4#32
  let v420 : BitVec 32 := Scalar.muli v5 c4_i32_248
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v422 : BitVec 32 := Scalar.muli v8 c1_i32_249
  let v423 : BitVec 32 := Scalar.addi v421 v422
  v423.toNat
def k0_dev29 (d0 : Dev nD) : Nat :=
  let c0_i32_255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_254 : BitVec 32 := 8#32
  let v430 : BitVec 32 := Scalar.muli v2 c8_i32_254
  let v431 : BitVec 32 := Scalar.addi c0_i32_255 v430
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_256 : BitVec 32 := 4#32
  let v432 : BitVec 32 := Scalar.muli v5 c4_i32_256
  let v433 : BitVec 32 := Scalar.addi v431 v432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_257 : BitVec 32 := 1#32
  let v434 : BitVec 32 := Scalar.muli v23 c1_i32_257
  let v435 : BitVec 32 := Scalar.addi v433 v434
  v435.toNat
def k0_dev30 (d0 : Dev nD) : Nat :=
  let c0_i32_272 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_271 : BitVec 32 := 8#32
  let v453 : BitVec 32 := Scalar.muli v20 c8_i32_271
  let v454 : BitVec 32 := Scalar.addi c0_i32_272 v453
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_273 : BitVec 32 := 4#32
  let v455 : BitVec 32 := Scalar.muli v5 c4_i32_273
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v457 : BitVec 32 := Scalar.muli v8 c1_i32_274
  let v458 : BitVec 32 := Scalar.addi v456 v457
  v458.toNat
def k0_dev31 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v465 : BitVec 32 := Scalar.muli v2 c8_i32_279
  let v466 : BitVec 32 := Scalar.addi c0_i32_280 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_281 : BitVec 32 := 4#32
  let v467 : BitVec 32 := Scalar.muli v5 c4_i32_281
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_282 : BitVec 32 := 1#32
  let v469 : BitVec 32 := Scalar.muli v23 c1_i32_282
  let v470 : BitVec 32 := Scalar.addi v468 v469
  v470.toNat
def k0_dev32 (d0 : Dev nD) : Nat :=
  let c0_i32_297 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_296 : BitVec 32 := 8#32
  let v488 : BitVec 32 := Scalar.muli v20 c8_i32_296
  let v489 : BitVec 32 := Scalar.addi c0_i32_297 v488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_298 : BitVec 32 := 4#32
  let v490 : BitVec 32 := Scalar.muli v5 c4_i32_298
  let v491 : BitVec 32 := Scalar.addi v489 v490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v492 : BitVec 32 := Scalar.muli v8 c1_i32_299
  let v493 : BitVec 32 := Scalar.addi v491 v492
  v493.toNat
def k0_dev33 (d0 : Dev nD) : Nat :=
  let c0_i32_305 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_304 : BitVec 32 := 8#32
  let v500 : BitVec 32 := Scalar.muli v2 c8_i32_304
  let v501 : BitVec 32 := Scalar.addi c0_i32_305 v500
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_306 : BitVec 32 := 4#32
  let v502 : BitVec 32 := Scalar.muli v5 c4_i32_306
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_307 : BitVec 32 := 1#32
  let v504 : BitVec 32 := Scalar.muli v23 c1_i32_307
  let v505 : BitVec 32 := Scalar.addi v503 v504
  v505.toNat
def k0_dev34 (d0 : Dev nD) : Nat :=
  let c0_i32_322 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_321 : BitVec 32 := 8#32
  let v523 : BitVec 32 := Scalar.muli v20 c8_i32_321
  let v524 : BitVec 32 := Scalar.addi c0_i32_322 v523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_323 : BitVec 32 := 4#32
  let v525 : BitVec 32 := Scalar.muli v5 c4_i32_323
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v527 : BitVec 32 := Scalar.muli v8 c1_i32_324
  let v528 : BitVec 32 := Scalar.addi v526 v527
  v528.toNat
def k0_dev35 (d0 : Dev nD) : Nat :=
  let c0_i32_330 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_329 : BitVec 32 := 8#32
  let v535 : BitVec 32 := Scalar.muli v2 c8_i32_329
  let v536 : BitVec 32 := Scalar.addi c0_i32_330 v535
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_331 : BitVec 32 := 4#32
  let v537 : BitVec 32 := Scalar.muli v5 c4_i32_331
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_332 : BitVec 32 := 1#32
  let v539 : BitVec 32 := Scalar.muli v23 c1_i32_332
  let v540 : BitVec 32 := Scalar.addi v538 v539
  v540.toNat
def k0_dev36 (d0 : Dev nD) : Nat :=
  let c0_i32_347 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_346 : BitVec 32 := 8#32
  let v558 : BitVec 32 := Scalar.muli v20 c8_i32_346
  let v559 : BitVec 32 := Scalar.addi c0_i32_347 v558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_348 : BitVec 32 := 4#32
  let v560 : BitVec 32 := Scalar.muli v5 c4_i32_348
  let v561 : BitVec 32 := Scalar.addi v559 v560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_349 : BitVec 32 := 1#32
  let v562 : BitVec 32 := Scalar.muli v8 c1_i32_349
  let v563 : BitVec 32 := Scalar.addi v561 v562
  v563.toNat
def k0_dev37 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_354 : BitVec 32 := 8#32
  let v570 : BitVec 32 := Scalar.muli v2 c8_i32_354
  let v571 : BitVec 32 := Scalar.addi c0_i32_355 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v572 : BitVec 32 := Scalar.muli v5 c4_i32_356
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_357 : BitVec 32 := 1#32
  let v574 : BitVec 32 := Scalar.muli v23 c1_i32_357
  let v575 : BitVec 32 := Scalar.addi v573 v574
  v575.toNat
def k0_dev38 (d0 : Dev nD) : Nat :=
  let c0_i32_372 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_371 : BitVec 32 := 8#32
  let v593 : BitVec 32 := Scalar.muli v20 c8_i32_371
  let v594 : BitVec 32 := Scalar.addi c0_i32_372 v593
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v595 : BitVec 32 := Scalar.muli v5 c4_i32_373
  let v596 : BitVec 32 := Scalar.addi v594 v595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v597 : BitVec 32 := Scalar.muli v8 c1_i32_374
  let v598 : BitVec 32 := Scalar.addi v596 v597
  v598.toNat
def k0_dev39 (d0 : Dev nD) : Nat :=
  let c0_i32_380 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_379 : BitVec 32 := 8#32
  let v605 : BitVec 32 := Scalar.muli v2 c8_i32_379
  let v606 : BitVec 32 := Scalar.addi c0_i32_380 v605
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_381 : BitVec 32 := 4#32
  let v607 : BitVec 32 := Scalar.muli v5 c4_i32_381
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_382 : BitVec 32 := 1#32
  let v609 : BitVec 32 := Scalar.muli v23 c1_i32_382
  let v610 : BitVec 32 := Scalar.addi v608 v609
  v610.toNat
def k0_dev40 (d0 : Dev nD) : Nat :=
  let c0_i32_397 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_396 : BitVec 32 := 8#32
  let v628 : BitVec 32 := Scalar.muli v20 c8_i32_396
  let v629 : BitVec 32 := Scalar.addi c0_i32_397 v628
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_398 : BitVec 32 := 4#32
  let v630 : BitVec 32 := Scalar.muli v5 c4_i32_398
  let v631 : BitVec 32 := Scalar.addi v629 v630
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v632 : BitVec 32 := Scalar.muli v8 c1_i32_399
  let v633 : BitVec 32 := Scalar.addi v631 v632
  v633.toNat
def k0_dev41 (d0 : Dev nD) : Nat :=
  let c0_i32_405 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_404 : BitVec 32 := 8#32
  let v640 : BitVec 32 := Scalar.muli v2 c8_i32_404
  let v641 : BitVec 32 := Scalar.addi c0_i32_405 v640
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_406 : BitVec 32 := 4#32
  let v642 : BitVec 32 := Scalar.muli v5 c4_i32_406
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_407 : BitVec 32 := 1#32
  let v644 : BitVec 32 := Scalar.muli v23 c1_i32_407
  let v645 : BitVec 32 := Scalar.addi v643 v644
  v645.toNat
def k0_dev42 (d0 : Dev nD) : Nat :=
  let c0_i32_422 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_421 : BitVec 32 := 8#32
  let v663 : BitVec 32 := Scalar.muli v20 c8_i32_421
  let v664 : BitVec 32 := Scalar.addi c0_i32_422 v663
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_423 : BitVec 32 := 4#32
  let v665 : BitVec 32 := Scalar.muli v5 c4_i32_423
  let v666 : BitVec 32 := Scalar.addi v664 v665
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v667 : BitVec 32 := Scalar.muli v8 c1_i32_424
  let v668 : BitVec 32 := Scalar.addi v666 v667
  v668.toNat
def k0_dev43 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v675 : BitVec 32 := Scalar.muli v2 c8_i32_429
  let v676 : BitVec 32 := Scalar.addi c0_i32_430 v675
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v677 : BitVec 32 := Scalar.muli v5 c4_i32_431
  let v678 : BitVec 32 := Scalar.addi v676 v677
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_432 : BitVec 32 := 1#32
  let v679 : BitVec 32 := Scalar.muli v23 c1_i32_432
  let v680 : BitVec 32 := Scalar.addi v678 v679
  v680.toNat
def k0_dev44 (d0 : Dev nD) : Nat :=
  let c0_i32_447 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_446 : BitVec 32 := 8#32
  let v698 : BitVec 32 := Scalar.muli v20 c8_i32_446
  let v699 : BitVec 32 := Scalar.addi c0_i32_447 v698
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_448 : BitVec 32 := 4#32
  let v700 : BitVec 32 := Scalar.muli v5 c4_i32_448
  let v701 : BitVec 32 := Scalar.addi v699 v700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_449 : BitVec 32 := 1#32
  let v702 : BitVec 32 := Scalar.muli v8 c1_i32_449
  let v703 : BitVec 32 := Scalar.addi v701 v702
  v703.toNat
def k0_dev45 (d0 : Dev nD) : Nat :=
  let c0_i32_455 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_454 : BitVec 32 := 8#32
  let v710 : BitVec 32 := Scalar.muli v2 c8_i32_454
  let v711 : BitVec 32 := Scalar.addi c0_i32_455 v710
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_456 : BitVec 32 := 4#32
  let v712 : BitVec 32 := Scalar.muli v5 c4_i32_456
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_457 : BitVec 32 := 1#32
  let v714 : BitVec 32 := Scalar.muli v23 c1_i32_457
  let v715 : BitVec 32 := Scalar.addi v713 v714
  v715.toNat
def k0_dev46 (d0 : Dev nD) : Nat :=
  let c0_i32_472 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_471 : BitVec 32 := 8#32
  let v733 : BitVec 32 := Scalar.muli v20 c8_i32_471
  let v734 : BitVec 32 := Scalar.addi c0_i32_472 v733
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v735 : BitVec 32 := Scalar.muli v5 c4_i32_473
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_474 : BitVec 32 := 1#32
  let v737 : BitVec 32 := Scalar.muli v8 c1_i32_474
  let v738 : BitVec 32 := Scalar.addi v736 v737
  v738.toNat
def k0_dev47 (d0 : Dev nD) : Nat :=
  let c0_i32_480 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_479 : BitVec 32 := 8#32
  let v745 : BitVec 32 := Scalar.muli v2 c8_i32_479
  let v746 : BitVec 32 := Scalar.addi c0_i32_480 v745
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_481 : BitVec 32 := 4#32
  let v747 : BitVec 32 := Scalar.muli v5 c4_i32_481
  let v748 : BitVec 32 := Scalar.addi v746 v747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_482 : BitVec 32 := 1#32
  let v749 : BitVec 32 := Scalar.muli v23 c1_i32_482
  let v750 : BitVec 32 := Scalar.addi v748 v749
  v750.toNat
def k0_dev48 (d0 : Dev nD) : Nat :=
  let c0_i32_497 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_496 : BitVec 32 := 8#32
  let v768 : BitVec 32 := Scalar.muli v20 c8_i32_496
  let v769 : BitVec 32 := Scalar.addi c0_i32_497 v768
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_498 : BitVec 32 := 4#32
  let v770 : BitVec 32 := Scalar.muli v5 c4_i32_498
  let v771 : BitVec 32 := Scalar.addi v769 v770
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_499 : BitVec 32 := 1#32
  let v772 : BitVec 32 := Scalar.muli v8 c1_i32_499
  let v773 : BitVec 32 := Scalar.addi v771 v772
  v773.toNat
def k0_dev49 (d0 : Dev nD) : Nat :=
  let c0_i32_505 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_504 : BitVec 32 := 8#32
  let v780 : BitVec 32 := Scalar.muli v2 c8_i32_504
  let v781 : BitVec 32 := Scalar.addi c0_i32_505 v780
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_506 : BitVec 32 := 4#32
  let v782 : BitVec 32 := Scalar.muli v5 c4_i32_506
  let v783 : BitVec 32 := Scalar.addi v781 v782
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_507 : BitVec 32 := 1#32
  let v784 : BitVec 32 := Scalar.muli v23 c1_i32_507
  let v785 : BitVec 32 := Scalar.addi v783 v784
  v785.toNat
def k0_dev50 (d0 : Dev nD) : Nat :=
  let c0_i32_522 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_521 : BitVec 32 := 8#32
  let v803 : BitVec 32 := Scalar.muli v20 c8_i32_521
  let v804 : BitVec 32 := Scalar.addi c0_i32_522 v803
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_523 : BitVec 32 := 4#32
  let v805 : BitVec 32 := Scalar.muli v5 c4_i32_523
  let v806 : BitVec 32 := Scalar.addi v804 v805
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_524 : BitVec 32 := 1#32
  let v807 : BitVec 32 := Scalar.muli v8 c1_i32_524
  let v808 : BitVec 32 := Scalar.addi v806 v807
  v808.toNat
def k0_dev51 (d0 : Dev nD) : Nat :=
  let c0_i32_530 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_529 : BitVec 32 := 8#32
  let v815 : BitVec 32 := Scalar.muli v2 c8_i32_529
  let v816 : BitVec 32 := Scalar.addi c0_i32_530 v815
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_531 : BitVec 32 := 4#32
  let v817 : BitVec 32 := Scalar.muli v5 c4_i32_531
  let v818 : BitVec 32 := Scalar.addi v816 v817
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_532 : BitVec 32 := 1#32
  let v819 : BitVec 32 := Scalar.muli v23 c1_i32_532
  let v820 : BitVec 32 := Scalar.addi v818 v819
  v820.toNat
def k0_dev52 (d0 : Dev nD) : Nat :=
  let c0_i32_547 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_546 : BitVec 32 := 8#32
  let v838 : BitVec 32 := Scalar.muli v20 c8_i32_546
  let v839 : BitVec 32 := Scalar.addi c0_i32_547 v838
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_548 : BitVec 32 := 4#32
  let v840 : BitVec 32 := Scalar.muli v5 c4_i32_548
  let v841 : BitVec 32 := Scalar.addi v839 v840
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_549 : BitVec 32 := 1#32
  let v842 : BitVec 32 := Scalar.muli v8 c1_i32_549
  let v843 : BitVec 32 := Scalar.addi v841 v842
  v843.toNat
def k0_dev53 (d0 : Dev nD) : Nat :=
  let c0_i32_555 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_554 : BitVec 32 := 8#32
  let v850 : BitVec 32 := Scalar.muli v2 c8_i32_554
  let v851 : BitVec 32 := Scalar.addi c0_i32_555 v850
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_556 : BitVec 32 := 4#32
  let v852 : BitVec 32 := Scalar.muli v5 c4_i32_556
  let v853 : BitVec 32 := Scalar.addi v851 v852
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_557 : BitVec 32 := 1#32
  let v854 : BitVec 32 := Scalar.muli v23 c1_i32_557
  let v855 : BitVec 32 := Scalar.addi v853 v854
  v855.toNat
def k0_dev54 (d0 : Dev nD) : Nat :=
  let c0_i32_572 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_571 : BitVec 32 := 8#32
  let v873 : BitVec 32 := Scalar.muli v20 c8_i32_571
  let v874 : BitVec 32 := Scalar.addi c0_i32_572 v873
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_573 : BitVec 32 := 4#32
  let v875 : BitVec 32 := Scalar.muli v5 c4_i32_573
  let v876 : BitVec 32 := Scalar.addi v874 v875
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_574 : BitVec 32 := 1#32
  let v877 : BitVec 32 := Scalar.muli v8 c1_i32_574
  let v878 : BitVec 32 := Scalar.addi v876 v877
  v878.toNat
def k0_dev55 (d0 : Dev nD) : Nat :=
  let c0_i32_580 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_579 : BitVec 32 := 8#32
  let v885 : BitVec 32 := Scalar.muli v2 c8_i32_579
  let v886 : BitVec 32 := Scalar.addi c0_i32_580 v885
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_581 : BitVec 32 := 4#32
  let v887 : BitVec 32 := Scalar.muli v5 c4_i32_581
  let v888 : BitVec 32 := Scalar.addi v886 v887
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_582 : BitVec 32 := 1#32
  let v889 : BitVec 32 := Scalar.muli v23 c1_i32_582
  let v890 : BitVec 32 := Scalar.addi v888 v889
  v890.toNat
def k0_dev56 (d0 : Dev nD) : Nat :=
  let c0_i32_597 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_596 : BitVec 32 := 8#32
  let v908 : BitVec 32 := Scalar.muli v20 c8_i32_596
  let v909 : BitVec 32 := Scalar.addi c0_i32_597 v908
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_598 : BitVec 32 := 4#32
  let v910 : BitVec 32 := Scalar.muli v5 c4_i32_598
  let v911 : BitVec 32 := Scalar.addi v909 v910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_599 : BitVec 32 := 1#32
  let v912 : BitVec 32 := Scalar.muli v8 c1_i32_599
  let v913 : BitVec 32 := Scalar.addi v911 v912
  v913.toNat
def k0_dev57 (d0 : Dev nD) : Nat :=
  let c0_i32_605 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_604 : BitVec 32 := 8#32
  let v920 : BitVec 32 := Scalar.muli v2 c8_i32_604
  let v921 : BitVec 32 := Scalar.addi c0_i32_605 v920
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_606 : BitVec 32 := 4#32
  let v922 : BitVec 32 := Scalar.muli v5 c4_i32_606
  let v923 : BitVec 32 := Scalar.addi v921 v922
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_607 : BitVec 32 := 1#32
  let v924 : BitVec 32 := Scalar.muli v23 c1_i32_607
  let v925 : BitVec 32 := Scalar.addi v923 v924
  v925.toNat
def k0_off46 (d0 : Dev nD) : Fin 2 → Nat :=
  let c0_i32_616 : BitVec 32 := 0#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![0, v30.toNat]
def k0_off47 (d0 : Dev nD) : Fin 2 → Nat :=
  let c0_i32_624 : BitVec 32 := 0#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![0, v34.toNat]
def k0_off48 (d0 : Dev nD) : Fin 2 → Nat :=
  let c256_i32_632 : BitVec 32 := 256#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![256, v30.toNat]
def k0_off49 (d0 : Dev nD) : Fin 2 → Nat :=
  let c256_i32_640 : BitVec 32 := 256#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![256, v34.toNat]
def k0_off50 (d0 : Dev nD) : Fin 2 → Nat :=
  let c512_i32_648 : BitVec 32 := 512#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![512, v30.toNat]
def k0_off51 (d0 : Dev nD) : Fin 2 → Nat :=
  let c512_i32_656 : BitVec 32 := 512#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![512, v34.toNat]
def k0_off52 (d0 : Dev nD) : Fin 2 → Nat :=
  let c768_i32_664 : BitVec 32 := 768#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![768, v30.toNat]
def k0_off53 (d0 : Dev nD) : Fin 2 → Nat :=
  let c768_i32_672 : BitVec 32 := 768#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![768, v34.toNat]
def k0_off54 (d0 : Dev nD) : Fin 2 → Nat :=
  let c1024_i32_680 : BitVec 32 := 1024#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![1024, v30.toNat]
def k0_off55 (d0 : Dev nD) : Fin 2 → Nat :=
  let c1024_i32_688 : BitVec 32 := 1024#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![1024, v34.toNat]
def k0_off56 (d0 : Dev nD) : Fin 2 → Nat :=
  let c1280_i32_696 : BitVec 32 := 1280#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![1280, v30.toNat]
def k0_off57 (d0 : Dev nD) : Fin 2 → Nat :=
  let c1280_i32_704 : BitVec 32 := 1280#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![1280, v34.toNat]
def k0_off58 (d0 : Dev nD) : Fin 2 → Nat :=
  let c1536_i32_712 : BitVec 32 := 1536#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![1536, v30.toNat]
def k0_off59 (d0 : Dev nD) : Fin 2 → Nat :=
  let c1536_i32_720 : BitVec 32 := 1536#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![1536, v34.toNat]
def k0_dev58 (d0 : Dev nD) : Nat :=
  let c0_i32_725 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_724 : BitVec 32 := 8#32
  let v1072 : BitVec 32 := Scalar.muli v20 c8_i32_724
  let v1073 : BitVec 32 := Scalar.addi c0_i32_725 v1072
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_726 : BitVec 32 := 4#32
  let v1074 : BitVec 32 := Scalar.muli v5 c4_i32_726
  let v1075 : BitVec 32 := Scalar.addi v1073 v1074
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_727 : BitVec 32 := 1#32
  let v1076 : BitVec 32 := Scalar.muli v8 c1_i32_727
  let v1077 : BitVec 32 := Scalar.addi v1075 v1076
  v1077.toNat
def k0_off60 (d0 : Dev nD) : Fin 2 → Nat :=
  let c1792_i32_736 : BitVec 32 := 1792#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![1792, v30.toNat]
def k0_off61 (d0 : Dev nD) : Fin 2 → Nat :=
  let c1792_i32_744 : BitVec 32 := 1792#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![1792, v34.toNat]
def k0_dev59 (d0 : Dev nD) : Nat :=
  let c0_i32_749 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_748 : BitVec 32 := 8#32
  let v1104 : BitVec 32 := Scalar.muli v20 c8_i32_748
  let v1105 : BitVec 32 := Scalar.addi c0_i32_749 v1104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_750 : BitVec 32 := 4#32
  let v1106 : BitVec 32 := Scalar.muli v5 c4_i32_750
  let v1107 : BitVec 32 := Scalar.addi v1105 v1106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_751 : BitVec 32 := 1#32
  let v1108 : BitVec 32 := Scalar.muli v8 c1_i32_751
  let v1109 : BitVec 32 := Scalar.addi v1107 v1108
  v1109.toNat
def k0_off62 (d0 : Dev nD) : Fin 2 → Nat :=
  let c2048_i32_760 : BitVec 32 := 2048#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![2048, v30.toNat]
def k0_off63 (d0 : Dev nD) : Fin 2 → Nat :=
  let c2048_i32_768 : BitVec 32 := 2048#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![2048, v34.toNat]
def k0_dev60 (d0 : Dev nD) : Nat :=
  let c0_i32_773 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_772 : BitVec 32 := 8#32
  let v1136 : BitVec 32 := Scalar.muli v20 c8_i32_772
  let v1137 : BitVec 32 := Scalar.addi c0_i32_773 v1136
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_774 : BitVec 32 := 4#32
  let v1138 : BitVec 32 := Scalar.muli v5 c4_i32_774
  let v1139 : BitVec 32 := Scalar.addi v1137 v1138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_775 : BitVec 32 := 1#32
  let v1140 : BitVec 32 := Scalar.muli v8 c1_i32_775
  let v1141 : BitVec 32 := Scalar.addi v1139 v1140
  v1141.toNat
def k0_off64 (d0 : Dev nD) : Fin 2 → Nat :=
  let c2304_i32_784 : BitVec 32 := 2304#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![2304, v30.toNat]
def k0_off65 (d0 : Dev nD) : Fin 2 → Nat :=
  let c2304_i32_792 : BitVec 32 := 2304#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![2304, v34.toNat]
def k0_dev61 (d0 : Dev nD) : Nat :=
  let c0_i32_797 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_796 : BitVec 32 := 8#32
  let v1168 : BitVec 32 := Scalar.muli v20 c8_i32_796
  let v1169 : BitVec 32 := Scalar.addi c0_i32_797 v1168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_798 : BitVec 32 := 4#32
  let v1170 : BitVec 32 := Scalar.muli v5 c4_i32_798
  let v1171 : BitVec 32 := Scalar.addi v1169 v1170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_799 : BitVec 32 := 1#32
  let v1172 : BitVec 32 := Scalar.muli v8 c1_i32_799
  let v1173 : BitVec 32 := Scalar.addi v1171 v1172
  v1173.toNat
def k0_off66 (d0 : Dev nD) : Fin 2 → Nat :=
  let c2560_i32_808 : BitVec 32 := 2560#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![2560, v30.toNat]
def k0_off67 (d0 : Dev nD) : Fin 2 → Nat :=
  let c2560_i32_816 : BitVec 32 := 2560#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![2560, v34.toNat]
def k0_dev62 (d0 : Dev nD) : Nat :=
  let c0_i32_821 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_820 : BitVec 32 := 8#32
  let v1200 : BitVec 32 := Scalar.muli v20 c8_i32_820
  let v1201 : BitVec 32 := Scalar.addi c0_i32_821 v1200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_822 : BitVec 32 := 4#32
  let v1202 : BitVec 32 := Scalar.muli v5 c4_i32_822
  let v1203 : BitVec 32 := Scalar.addi v1201 v1202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_823 : BitVec 32 := 1#32
  let v1204 : BitVec 32 := Scalar.muli v8 c1_i32_823
  let v1205 : BitVec 32 := Scalar.addi v1203 v1204
  v1205.toNat
def k0_off68 (d0 : Dev nD) : Fin 2 → Nat :=
  let c2816_i32_832 : BitVec 32 := 2816#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![2816, v30.toNat]
def k0_off69 (d0 : Dev nD) : Fin 2 → Nat :=
  let c2816_i32_840 : BitVec 32 := 2816#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![2816, v34.toNat]
def k0_dev63 (d0 : Dev nD) : Nat :=
  let c0_i32_845 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_844 : BitVec 32 := 8#32
  let v1232 : BitVec 32 := Scalar.muli v2 c8_i32_844
  let v1233 : BitVec 32 := Scalar.addi c0_i32_845 v1232
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_846 : BitVec 32 := 4#32
  let v1234 : BitVec 32 := Scalar.muli v5 c4_i32_846
  let v1235 : BitVec 32 := Scalar.addi v1233 v1234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_847 : BitVec 32 := 1#32
  let v1236 : BitVec 32 := Scalar.muli v23 c1_i32_847
  let v1237 : BitVec 32 := Scalar.addi v1235 v1236
  v1237.toNat
def k0_off70 (d0 : Dev nD) : Fin 2 → Nat :=
  let c3072_i32_856 : BitVec 32 := 3072#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![3072, v30.toNat]
def k0_off71 (d0 : Dev nD) : Fin 2 → Nat :=
  let c3072_i32_864 : BitVec 32 := 3072#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![3072, v34.toNat]
def k0_dev64 (d0 : Dev nD) : Nat :=
  let c0_i32_869 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_868 : BitVec 32 := 8#32
  let v1264 : BitVec 32 := Scalar.muli v2 c8_i32_868
  let v1265 : BitVec 32 := Scalar.addi c0_i32_869 v1264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_870 : BitVec 32 := 4#32
  let v1266 : BitVec 32 := Scalar.muli v5 c4_i32_870
  let v1267 : BitVec 32 := Scalar.addi v1265 v1266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_871 : BitVec 32 := 1#32
  let v1268 : BitVec 32 := Scalar.muli v23 c1_i32_871
  let v1269 : BitVec 32 := Scalar.addi v1267 v1268
  v1269.toNat
def k0_off72 (d0 : Dev nD) : Fin 2 → Nat :=
  let c3328_i32_880 : BitVec 32 := 3328#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![3328, v30.toNat]
def k0_off73 (d0 : Dev nD) : Fin 2 → Nat :=
  let c3328_i32_888 : BitVec 32 := 3328#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![3328, v34.toNat]
def k0_dev65 (d0 : Dev nD) : Nat :=
  let c0_i32_893 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_892 : BitVec 32 := 8#32
  let v1296 : BitVec 32 := Scalar.muli v2 c8_i32_892
  let v1297 : BitVec 32 := Scalar.addi c0_i32_893 v1296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_894 : BitVec 32 := 4#32
  let v1298 : BitVec 32 := Scalar.muli v5 c4_i32_894
  let v1299 : BitVec 32 := Scalar.addi v1297 v1298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_895 : BitVec 32 := 1#32
  let v1300 : BitVec 32 := Scalar.muli v23 c1_i32_895
  let v1301 : BitVec 32 := Scalar.addi v1299 v1300
  v1301.toNat
def k0_off74 (d0 : Dev nD) : Fin 2 → Nat :=
  let c3584_i32_904 : BitVec 32 := 3584#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![3584, v30.toNat]
def k0_off75 (d0 : Dev nD) : Fin 2 → Nat :=
  let c3584_i32_912 : BitVec 32 := 3584#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![3584, v34.toNat]
def k0_dev66 (d0 : Dev nD) : Nat :=
  let c0_i32_917 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_916 : BitVec 32 := 8#32
  let v1328 : BitVec 32 := Scalar.muli v2 c8_i32_916
  let v1329 : BitVec 32 := Scalar.addi c0_i32_917 v1328
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_918 : BitVec 32 := 4#32
  let v1330 : BitVec 32 := Scalar.muli v5 c4_i32_918
  let v1331 : BitVec 32 := Scalar.addi v1329 v1330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_919 : BitVec 32 := 1#32
  let v1332 : BitVec 32 := Scalar.muli v23 c1_i32_919
  let v1333 : BitVec 32 := Scalar.addi v1331 v1332
  v1333.toNat
def k0_off76 (d0 : Dev nD) : Fin 2 → Nat :=
  let c3840_i32_928 : BitVec 32 := 3840#32
  let c2_i32_12 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_12 v18
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let v29 : BitVec 32 := Scalar.addi v27 v28
  let c256_i32_14 : BitVec 32 := 256#32
  let v30 : BitVec 32 := Scalar.muli v29 c256_i32_14
  ![3840, v30.toNat]
def k0_off77 (d0 : Dev nD) : Fin 2 → Nat :=
  let c3840_i32_936 : BitVec 32 := 3840#32
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.addi v32 v2
  let c256_i32_17 : BitVec 32 := 256#32
  let v34 : BitVec 32 := Scalar.muli v33 c256_i32_17
  ![3840, v34.toNat]
def k0_dev67 (d0 : Dev nD) : Nat :=
  let c0_i32_941 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_940 : BitVec 32 := 8#32
  let v1360 : BitVec 32 := Scalar.muli v2 c8_i32_940
  let v1361 : BitVec 32 := Scalar.addi c0_i32_941 v1360
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_942 : BitVec 32 := 4#32
  let v1362 : BitVec 32 := Scalar.muli v5 c4_i32_942
  let v1363 : BitVec 32 := Scalar.addi v1361 v1362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_943 : BitVec 32 := 1#32
  let v1364 : BitVec 32 := Scalar.muli v23 c1_i32_943
  let v1365 : BitVec 32 := Scalar.addi v1363 v1364
  v1365.toNat
def k0_off78 (d0 : Dev nD) : Fin 2 → Nat :=
  let c1536_i32_1038 : BitVec 32 := 1536#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![1536, v39.toNat]
def k0_off79 (d0 : Dev nD) : Fin 2 → Nat :=
  let c1792_i32_1051 : BitVec 32 := 1792#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![1792, v39.toNat]
def k0_off80 (d0 : Dev nD) : Fin 2 → Nat :=
  let c2048_i32_1064 : BitVec 32 := 2048#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![2048, v39.toNat]
def k0_off81 (d0 : Dev nD) : Fin 2 → Nat :=
  let c2304_i32_1077 : BitVec 32 := 2304#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![2304, v39.toNat]
def k0_off82 (d0 : Dev nD) : Fin 2 → Nat :=
  let c2560_i32_1090 : BitVec 32 := 2560#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![2560, v39.toNat]
def k0_off83 (d0 : Dev nD) : Fin 2 → Nat :=
  let c2816_i32_1103 : BitVec 32 := 2816#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![2816, v39.toNat]
def k0_off84 (d0 : Dev nD) : Fin 2 → Nat :=
  let c3072_i32_1116 : BitVec 32 := 3072#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![3072, v39.toNat]
def k0_off85 (d0 : Dev nD) : Fin 2 → Nat :=
  let c3328_i32_1129 : BitVec 32 := 3328#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![3328, v39.toNat]
def k0_off86 (d0 : Dev nD) : Fin 2 → Nat :=
  let c3584_i32_1142 : BitVec 32 := 3584#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![3584, v39.toNat]
def k0_off87 (d0 : Dev nD) : Fin 2 → Nat :=
  let c3840_i32_1155 : BitVec 32 := 3840#32
  let c2_i32_19 : BitVec 32 := 2#32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_18 v18
  let v36 : BitVec 32 := Scalar.muli c2_i32_19 v35
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_20 v2
  let v38 : BitVec 32 := Scalar.addi v36 v37
  let c256_i32_21 : BitVec 32 := 256#32
  let v39 : BitVec 32 := Scalar.muli v38 c256_i32_21
  ![3840, v39.toNat]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Plan.lean ====
/-
The plan of the transfers, in numbers alone.

Device `8x + 4y + z` of the 2 x 2 x 4 mesh exchanges with three peers: the device across `y`, the one across `x`,
and the one whose `z` differs in its last bit. A device makes 64 remote copies, numbered here in program order,
and 64 land on it, numbered by the number they have at their sender. A remote copy moves one piece of the
4096 x 1024 landing buffer: 256 rows by 256 columns, piece `(r, q)` holding rows `256r ..` and columns `256q ..`.

Copies 0..21 cross `y`; copies 22..53 alternate between `x` (even) and `z` (odd); copies 54..58 cross `x` and
59..63 cross `z` again, passing on pieces that came the other way.
-/
module

public import proofs.«01_k».proof.Proof.Gen.Kernel

@[expose] public section

namespace Cert.Scatter

open Cert.Kernel Cert.Kernel.Gen
open Idealize.ShloMosaic

/-! ## The devices -/

/-- The peer across `y`. -/
def peerY (c : Dev nD) : Dev nD := ⟨(c.val ^^^ 4) % 16, Nat.mod_lt _ (by decide)⟩
/-- The peer across `x`. -/
def peerX (c : Dev nD) : Dev nD := ⟨(c.val ^^^ 8) % 16, Nat.mod_lt _ (by decide)⟩
/-- The peer along `z`. -/
def peerZ (c : Dev nD) : Dev nD := ⟨(c.val ^^^ 1) % 16, Nat.mod_lt _ (by decide)⟩

/-- The three peers by way: across `y`, across `x`, along `z`. -/
def peer (w : Fin 3) (c : Dev nD) : Dev nD := if w = 0 then peerY c else if w = 1 then peerX c else peerZ c

/-- Each is its peer's peer. -/
theorem peer_peer : ∀ (w : Fin 3) (c : Dev nD), peer w (peer w c) = c := by decide +kernel

/-- A device's `y` coordinate. -/
def yOf (c : Dev nD) : ℕ := c.val / 4 % 2

/-- It is 0 or 1. -/
theorem yOf_lt (c : Dev nD) : yOf c < 2 := Nat.mod_lt _ (by decide)
/-- The peer across `y` has the other, -/
theorem yOf_peerY : ∀ c : Dev nD, yOf (peerY c) = 1 - yOf c := by decide +kernel
/-- the peer across `x` the same, -/
theorem yOf_peerX : ∀ c : Dev nD, yOf (peerX c) = yOf c := by decide +kernel
/-- and the peer along `z` too. -/
theorem yOf_peerZ : ∀ c : Dev nD, yOf (peerZ c) = yOf c := by decide +kernel

/-- The quarter of the columns a device asks its `y` peer for and passes on. -/
def quarter (c : Dev nD) : ℕ := 2 * (c.val % 2) + c.val / 8

/-! ## The copies -/

/-- Which way copy `n` goes. -/
def way (n : ℕ) : Fin 3 :=
  if n < 22 then 0 else if n < 54 then (if n % 2 = 0 then 1 else 2) else if n < 59 then 1 else 2

/-- Where copy `n` of device `c` goes; also where the copy numbered `n` landing on `c` comes from. -/
def other (n : ℕ) (c : Dev nD) : Dev nD := peer (way n) c

/-- The partner's partner in a copy is the device itself. -/
theorem other_other (n : ℕ) (c : Dev nD) : other n (other n c) = c := peer_peer _ _

/-- The row of pieces copy `n` moves within. -/
def row (n : ℕ) : ℕ :=
  if n < 16 then n else if n < 22 then n - 16 else if n < 54 then (n - 22) / 2 else if n < 59 then 6 + (n - 54) else 11 + (n - 59)

/-- The column of pieces copy `n` of device `c` moves. -/
def col (n : ℕ) (c : Dev nD) : ℕ :=
  if n < 16 then quarter c else if n < 22 then quarter (peerX (peerZ c)) else if n < 54 then quarter c
  else if n < 59 then quarter (peerZ c) else quarter (peerX c)

/-- The column of pieces copy `n` landing on device `c` fills. -/
def colIn (n : ℕ) (c : Dev nD) : ℕ := col n (other n c)

/-- The semaphore on which the sender of copy `n` waits. -/
def sendSem (n : ℕ) : ℕ :=
  if n < 22 then 2 + n else if n < 54 then (if n % 2 = 0 then 46 + (n - 22) / 2 else 78 + (n - 22) / 2)
  else if n < 59 then 110 + (n - 54) else 120 + (n - 59)

/-- The semaphore on which its receiver waits. -/
def recvSem (n : ℕ) : ℕ :=
  if n < 22 then 24 + n else if n < 54 then (if n % 2 = 0 then 62 + (n - 22) / 2 else 94 + (n - 22) / 2)
  else if n < 59 then 115 + (n - 54) else 125 + (n - 59)

/-- The landing whose piece copy `n ≥ 22` passes on. -/
def from_ (n : ℕ) : ℕ :=
  if n < 54 then (n - 22) / 2 else if n < 59 then 23 + 2 * (6 + (n - 54)) else 22 + 2 * (11 + (n - 59))

/-- The last landing of row `k` of pieces. -/
def last (k : ℕ) : ℕ := if k < 6 then 16 + k else 48 + k

/-- The landing on device `c` that fills piece `(r, q)`. -/
def fills (c : Dev nD) (r q : ℕ) : ℕ :=
  if q = quarter c then r else if q = quarter (peerX c) then 22 + 2 * r else if q = quarter (peerZ c) then 23 + 2 * r else last r

/-- There are 16 rows of pieces, -/
theorem row_lt : ∀ n < 64, row n < 16 := by decide +kernel
/-- and four columns, -/
theorem col_lt : ∀ n < 64, ∀ c : Dev nD, col n c < 4 := by decide +kernel
/-- for what lands as well. -/
theorem colIn_lt (n : ℕ) (h : n < 64) (c : Dev nD) : colIn n c < 4 := col_lt n h _
/-- The last landing of a row is one of the 64, -/
theorem last_lt : ∀ k < 16, last k < 64 := by decide +kernel
/-- and so is the landing that a copy passes on. -/
theorem from_lt : ∀ n < 64, 22 ≤ n → from_ n < 64 := by decide +kernel

/-- Landing `n` is the one that fills its piece, -/
theorem fills_landing : ∀ n < 64, ∀ c : Dev nD, fills c (row n) (colIn n c) = n := by decide +kernel
/-- and every piece is filled. -/
theorem landing_fills : ∀ r < 16, ∀ q < 4, ∀ c : Dev nD, fills c r q < 64 ∧ row (fills c r q) = r ∧ colIn (fills c r q) c = q := by
  decide +kernel

/-- A copy that passes a piece on takes it where it landed. -/
theorem from_row : ∀ n < 64, 22 ≤ n → row (from_ n) = row n := by decide +kernel
/-- The column is the same too. -/
theorem from_col : ∀ n < 64, 22 ≤ n → ∀ c : Dev nD, colIn (from_ n) c = col n c := by decide +kernel

/-- The four landings of row `k`. -/
theorem row_four : ∀ k < 16, row k = k ∧ row (last k) = k ∧ row (22 + 2 * k) = k ∧ row (23 + 2 * k) = k := by decide +kernel

/-! ## Where a piece comes from -/

/-- The device whose argument the piece `(r, q)` of device `c`'s landing buffer was read from. -/
def origin (c : Dev nD) (r q : ℕ) : Dev nD :=
  if q = quarter c then peerY c
  else if q = quarter (peerX c) then peerY (peerX c)
  else if q = quarter (peerZ c) then peerY (peerZ c)
  else if r < 6 then peerY c else peerY (peerX (peerZ c))

/-- It lies across `y`. -/
theorem yOf_origin : ∀ c : Dev nD, ∀ r < 16, ∀ q < 4, yOf (origin c r q) = 1 - yOf c := by decide +kernel
/-- A piece that crosses `y` comes from its sender, -/
theorem origin_first : ∀ n < 22, ∀ c : Dev nD, origin (other n c) (row n) (col n c) = c := by decide +kernel
/-- and one passed on keeps its origin. -/
theorem origin_passed : ∀ n < 64, 22 ≤ n → ∀ c : Dev nD, origin (other n c) (row n) (col n c) = origin c (row n) (col n c) := by
  decide +kernel
/-- A copy that passes a piece on stays on its side of `y`, -/
theorem yOf_other : ∀ n < 64, 22 ≤ n → ∀ c : Dev nD, yOf (other n c) = yOf c := by decide +kernel
/-- and each of the first 22 crosses. -/
theorem yOf_first : ∀ n < 22, ∀ c : Dev nD, yOf (other n c) = 1 - yOf c := by decide +kernel

end Cert.Scatter
-- ==== Proof.Pieces.lean ====
/-
What the buffers hold, and the parts of them that one copy moves.

The landing buffer is cut into 16 rows of four pieces, each 256 x 256. This module names the pieces, says which
part of a buffer the memory reference of a copy covers, what the landing buffer and the output hold in the end,
and that a copy leaves the landing buffer's final contents on the piece it fills.
-/
module

public import proofs.«01_k».proof.Proof.Plan
public import Idealize.ShloMosaic.Lib.Pipeline.ValueKit.Geometry
public import Idealize.ShloMosaic.Lib.Pipeline.Launch
public import Idealize.ShloMosaic.Lib.Pipeline.Kit

@[expose] public section

noncomputable section

namespace Cert.Scatter

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws

variable {F : FTy → Type} [FloatOps F]

/-! ## The memory references -/

/-- The argument's block, -/
abbrev xM : Memref sig .tc .hbm S1x4096x2048 .f32 := Memref.whole main_arg0
/-- the output, -/
abbrev oM : Memref sig .tc .vmem S4096x1024 .f32 := Memref.whole cc0_stg0_0
/-- the landing buffer, -/
abbrev fM : Memref sig .tc .vmem S4096x1024 .f32 := Memref.whole cc0_scratch0

/-- 256 x 256 of the landing buffer, from `off` on, -/
abbrev fAt (off : Fin 2 → ℕ) (inb : ∀ a, off a + S256x256.size a ≤ S4096x1024.size a) : Memref sig .tc .vmem S256x256 .f32 :=
  fM.slice (Rect.unit (s := S4096x1024) off S256x256.size inb) (fun _ => rfl)
/-- 256 x 256 of the argument, from `off` on, -/
abbrev xAt (off : Fin 3 → ℕ) (inb : ∀ a, off a + S1x256x256.size a ≤ S1x4096x2048.size a) : Memref sig .tc .hbm S256x256 .f32 :=
  (xM.slice (Rect.unit (s := S1x4096x2048) off S1x256x256.size inb) (fun _ => rfl)).squeeze S256x256 squeezes_S1x256x256_S256x256
/-- half of the argument's columns, from `off` on. -/
abbrev xHalf (off : Fin 3 → ℕ) (inb : ∀ a, off a + S1x4096x1024.size a ≤ S1x4096x2048.size a) : Memref sig .tc .hbm S4096x1024 .f32 :=
  (xM.slice (Rect.unit (s := S1x4096x2048) off S1x4096x1024.size inb) (fun _ => rfl)).squeeze S4096x1024 squeezes_S1x4096x1024_S4096x1024

/-! ## The pieces -/

/-- Piece `(r, q)` of a 4096 x 1024 buffer. -/
def piece (r q : ℕ) : Finset S4096x1024.Idx := Finset.univ.filter fun i => (i 0).val / 256 = r ∧ (i 1).val / 256 = q
/-- The four pieces of row `r`. -/
def band (r : ℕ) : Finset S4096x1024.Idx := Finset.univ.filter fun i => (i 0).val / 256 = r

/-- An element is in piece `(r, q)` if its row and column are, -/
theorem mem_piece {r q : ℕ} {i : S4096x1024.Idx} : i ∈ piece r q ↔ (i 0).val / 256 = r ∧ (i 1).val / 256 = q := by
  unfold piece; rw [Finset.mem_filter]; exact ⟨fun h => h.2, fun h => ⟨Finset.mem_univ _, h⟩⟩
/-- and in band `r` if its row is. -/
theorem mem_band {r : ℕ} {i : S4096x1024.Idx} : i ∈ band r ↔ (i 0).val / 256 = r := by
  unfold band; rw [Finset.mem_filter]; exact ⟨fun h => h.2, fun h => ⟨Finset.mem_univ _, h⟩⟩

/-- A row of the buffer is below 4096, -/
theorem idx0_lt (i : S4096x1024.Idx) : (i 0).val < 4096 := (i 0).isLt
/-- and a column below 1024. -/
theorem idx1_lt (i : S4096x1024.Idx) : (i 1).val < 1024 := (i 1).isLt

/-- The place of the landing buffer that element `x` of a part of it is. -/
theorem fAt_emb (off : Fin 2 → ℕ) (inb) (x : S256x256.Idx) (a : Fin 2) : ((((fAt off inb).view.emb x : S4096x1024.Idx) a : Fin _) : ℕ) = off a + (x a).val :=
  ValueKit.view_emb_slice_whole_unit_val cc0_scratch0 off S256x256.size inb x a

/-- The part of the landing buffer at rows `256r` and columns `256q` is the piece `(r, q)`. -/
theorem fAt_set {off : Fin 2 → ℕ} {inb} {r q : ℕ} (h : off = ![256 * r, 256 * q]) : ((fAt off inb).view.set : Finset S4096x1024.Idx) = piece r q := by
  have hs : ((fAt off inb).view.set : Finset S4096x1024.Idx) = (Rect.unit (s := S4096x1024) off S256x256.size inb).set := View.set_slice_whole _ _
  rw [hs]
  ext i
  rw [Rect.mem_set_unit, mem_piece]
  have h0 : off 0 = 256 * r := by rw [h]; rfl
  have h1 : off 1 = 256 * q := by rw [h]; rfl
  have s0 : S256x256.size 0 = 256 := rfl
  have s1 : S256x256.size 1 = 256 := rfl
  constructor
  · intro H
    have a0 := H 0; have a1 := H 1
    rw [h0, s0] at a0; rw [h1, s1] at a1
    omega
  · rintro ⟨H0, H1⟩ a
    match a with
    | 0 => rw [h0, s0]; omega
    | 1 => rw [h1, s1]; omega

/-- Rows `256k ..` of a whole 4096 x 1024 buffer are the band `k`. -/
theorem band_rect {off : Fin 2 → ℕ} {inb} {k : ℕ} (h : off = ![256 * k, 0]) : (Rect.unit (s := S4096x1024) off S256x1024.size inb).set = band k := by
  ext i
  rw [Rect.mem_set_unit, mem_band]
  have h0 : off 0 = 256 * k := by rw [h]; rfl
  have h1 : off 1 = 0 := by rw [h]; rfl
  have s0 : S256x1024.size 0 = 256 := rfl
  have s1 : S256x1024.size 1 = 1024 := rfl
  have := idx1_lt i
  constructor
  · intro H
    have a0 := H 0
    rw [h0, s0] at a0
    omega
  · intro H a
    match a with
    | 0 => rw [h0, s0]; omega
    | 1 => rw [h1, s1]; omega

/-! ## Contents -/

/-- An index into the argument's block, by row and column. -/
def inAt (r j : ℕ) : S1x4096x2048.Idx := fun
  | 0 => ⟨0, by decide⟩ | 1 => ⟨r % 4096, Nat.mod_lt _ (by decide)⟩ | 2 => ⟨j % 2048, Nat.mod_lt _ (by decide)⟩

/-- An index into the block is the one of its row and column. -/
theorem eq_inAt {i : S1x4096x2048.Idx} {r j : ℕ} (h1 : (i 1).val = r) (h2 : (i 2).val = j) : i = inAt r j := by
  subst h1 h2
  funext a
  match a with
  | 0 => exact Fin.ext (by have : (i 0).val < 1 := (i 0).isLt; show (i 0).val = 0; omega)
  | 1 => exact Fin.ext (Nat.mod_eq_of_lt (i 1).isLt).symm
  | 2 => exact Fin.ext (Nat.mod_eq_of_lt (i 2).isLt).symm

variable (m : (ℓ : Loc nD τ sig) → Buf (Elt F) ℓ)

/-- Device `c`'s block of the argument. -/
def argOf (c : Dev nD) : S1x4096x2048.Idx → Elt F .f32 := m ((c : Thread nD τ).loc main_arg0)

/-- What device `c`'s landing buffer holds in the end: the columns `c` keeps, of the device each piece came from. -/
def landed (c : Dev nD) : S4096x1024.Idx → Elt F .f32 := fun i =>
  argOf m (origin c ((i 0).val / 256) ((i 1).val / 256)) (inAt (i 0).val (1024 * yOf c + (i 1).val))

/-- The columns device `c` keeps, of its own block. -/
def kept (c : Dev nD) : S4096x1024.Idx → Elt F .f32 := fun i => argOf m c (inAt (i 0).val (1024 * yOf c + (i 1).val))

/-- The output when the first `k` bands are summed. -/
def summed (c : Dev nD) (k : ℕ) : S4096x1024.Idx → Elt F .f32 := fun i =>
  if (i 0).val / 256 < k then (FloatOps.addf (kept m c i : F .f32) (landed m c i) : F .f32) else kept m c i

/-- Before any band is summed the output holds what the device keeps; -/
theorem summed_zero (c : Dev nD) : summed m c 0 = kept m c := funext fun _ => if_neg (Nat.not_lt_zero _)
/-- after all, everywhere the sum of what it keeps and what has landed. -/
theorem summed_all (c : Dev nD) (i : S4096x1024.Idx) : summed m c 16 i = (FloatOps.addf (kept m c i : F .f32) (landed m c i) : F .f32) :=
  if_pos (by have := idx0_lt i; omega)

/-! ## What a copy leaves -/

/-- The place of the argument that element `x` of a part of it is. -/
theorem xAt_emb (off : Fin 3 → ℕ) (inb) (x : S256x256.Idx) (r j : ℕ) (hr : off 1 + (x 0).val = r) (hj : off 2 + (x 1).val = j) :
    ((xAt off inb).view.emb x : S1x4096x2048.Idx) = inAt r j := by
  have he : ∀ a, ((((xAt off inb).view.emb x : S1x4096x2048.Idx) a : Fin _) : ℕ)
      = off a + ((Fin.cons ⟨0, Nat.one_pos⟩ x : S1x256x256.Idx) a).val := fun a =>
    (ValueKit.view_emb_slice_whole_unit_val main_arg0 off S1x256x256.size inb (Shape.reshapeEquiv _ x) a).trans
      (by rw [Shape.reshapeEquiv_cons_one])
  exact eq_inAt ((he 1).trans hr) ((he 2).trans hj)

/-- The place of the argument that element `x` of the half kept is. -/
theorem xHalf_emb (off : Fin 3 → ℕ) (inb) (x : S4096x1024.Idx) (r j : ℕ) (hr : off 1 + (x 0).val = r) (hj : off 2 + (x 1).val = j) :
    ((xHalf off inb).view.emb x : S1x4096x2048.Idx) = inAt r j := by
  have he : ∀ a, ((((xHalf off inb).view.emb x : S1x4096x2048.Idx) a : Fin _) : ℕ)
      = off a + ((Fin.cons ⟨0, Nat.one_pos⟩ x : S1x4096x1024.Idx) a).val := fun a =>
    (ValueKit.view_emb_slice_whole_unit_val main_arg0 off S1x4096x1024.size inb (Shape.reshapeEquiv _ x) a).trans
      (by rw [Shape.reshapeEquiv_cons_one])
  exact eq_inAt ((he 1).trans hr) ((he 2).trans hj)

/-- A piece that crosses `y` lands with the receiver's final contents. -/
theorem land_first {n : ℕ} (hn : n < 22) (c : Dev nD) {off : Fin 2 → ℕ} {inb} {offx : Fin 3 → ℕ} {inbx}
    (ho : off = ![256 * row n, 256 * col n c]) (hx : offx = ![0, 256 * row n, 1024 * (1 - yOf c) + 256 * col n c]) (x : S256x256.Idx) :
    (fAt off inb).view.read (Elt F) (landed m (other n c)) x = (xAt offx inbx).view.read (Elt F) (argOf m c) x := by
  show landed m (other n c) ((fAt off inb).view.emb x) = argOf m c ((xAt offx inbx).view.emb x)
  have e0 : ((((fAt off inb).view.emb x : S4096x1024.Idx) 0 : Fin _) : ℕ) = 256 * row n + (x 0).val := by subst ho; exact fAt_emb _ inb x 0
  have e1 : ((((fAt off inb).view.emb x : S4096x1024.Idx) 1 : Fin _) : ℕ) = 256 * col n c + (x 1).val := by subst ho; exact fAt_emb _ inb x 1
  have x0 : (x 0).val < 256 := (x 0).isLt
  have x1 : (x 1).val < 256 := (x 1).isLt
  unfold landed
  rw [e0, e1, show (256 * row n + (x 0).val) / 256 = row n by omega, show (256 * col n c + (x 1).val) / 256 = col n c by omega,
    origin_first n hn c, yOf_first n hn c]
  rw [xAt_emb offx inbx x (256 * row n + (x 0).val) (1024 * (1 - yOf c) + (256 * col n c + (x 1).val)) (by rw [hx]; rfl)
    (by rw [hx]; show 1024 * (1 - yOf c) + 256 * col n c + (x 1).val = _; omega)]

/-- A piece passed on lands with the receiver's final contents, if the sender's were final. -/
theorem land_passed {n : ℕ} (hn : n < 64) (hn' : 22 ≤ n) (c : Dev nD) {off : Fin 2 → ℕ} {inb}
    (ho : off = ![256 * row n, 256 * col n c]) (x : S256x256.Idx) :
    (fAt off inb).view.read (Elt F) (landed m (other n c)) x = (fAt off inb).view.read (Elt F) (landed m c) x := by
  show landed m (other n c) ((fAt off inb).view.emb x) = landed m c ((fAt off inb).view.emb x)
  have e0 : ((((fAt off inb).view.emb x : S4096x1024.Idx) 0 : Fin _) : ℕ) = 256 * row n + (x 0).val := by subst ho; exact fAt_emb _ inb x 0
  have e1 : ((((fAt off inb).view.emb x : S4096x1024.Idx) 1 : Fin _) : ℕ) = 256 * col n c + (x 1).val := by subst ho; exact fAt_emb _ inb x 1
  have x0 : (x 0).val < 256 := (x 0).isLt
  have x1 : (x 1).val < 256 := (x 1).isLt
  unfold landed
  rw [e0, e1, show (256 * row n + (x 0).val) / 256 = row n by omega, show (256 * col n c + (x 1).val) / 256 = col n c by omega,
    origin_passed n hn hn' c, yOf_other n hn hn' c]

/-- The local copy leaves the columns the device keeps. -/
theorem land_local (c : Dev nD) {offx : Fin 3 → ℕ} {inbx} (hx : offx = ![0, 0, 1024 * yOf c]) :
    (xHalf offx inbx).view.read (Elt F) (argOf m c) = kept m c := by
  funext x
  show argOf m c ((xHalf offx inbx).view.emb x) = kept m c x
  unfold kept
  rw [xHalf_emb offx inbx x (x 0).val (1024 * yOf c + (x 1).val) (by rw [hx]; exact Nat.zero_add _) (by rw [hx]; rfl)]

/-- After a write, the part written holds `g` if reading `g` there gives what was written. -/
theorem write_agrees {sig' : RefSig} {κ : Kind} {sp : Space} {s : Shape} {e : EltTy} (v : View sig' κ sp s e) (f g : v.ty.Contents (Elt F)) {w : s.Idx → Elt F e}
    (h : ∀ x, v.read (Elt F) g x = w x) : ∀ i ∈ v.set, v.write (Elt F) f w Finset.univ i = g i := by
  intro i hi
  rw [← funext h, View.write_read_eq_piecewise, View.setOn_univ, Finset.piecewise_eq_of_mem _ _ _ hi]

/-! ## Adding a band -/

/-- Storing the sum of band `k` of the output and band `k` of the landing buffer sums one band more. -/
theorem summed_step (c : Dev nD) {k : ℕ} {off : Fin 2 → ℕ} {inb} (h : off = ![256 * k, 0]) {w : S256x1024.Idx → Elt F .f32}
    (hw : w = addf (φ := .f32) (oM.view.readAt (Elt F) (Rect.unit (s := S4096x1024) off S256x1024.size inb).toLoadRect (summed m c k))
      (fM.view.readAt (Elt F) (Rect.unit (s := S4096x1024) off S256x1024.size inb).toLoadRect (landed m c))) :
    (oM.access (Rect.unit (s := S4096x1024) off S256x1024.size inb)).write (Elt F) (summed m c k) w Finset.univ = summed m c (k + 1) := by
  have hset : (oM.access (Rect.unit (s := S4096x1024) off S256x1024.size inb)).set = band k :=
    (View.set_slice_whole cc0_stg0_0 (Rect.unit (s := S4096x1024) off S256x1024.size inb)).trans (band_rect h)
  funext i
  by_cases hi : i ∈ (oM.access (Rect.unit (s := S4096x1024) off S256x1024.size inb)).set
  · refine write_agrees (oM.access (Rect.unit (s := S4096x1024) off S256x1024.size inb)) (summed m c k) (summed m c (k + 1)) (fun x => ?_) i hi
    have hx : (oM.access (Rect.unit (s := S4096x1024) off S256x1024.size inb)).emb x ∈ (oM.access (Rect.unit (s := S4096x1024) off S256x1024.size inb)).set :=
      Finset.mem_map_of_mem _ (Finset.mem_univ x)
    rw [hset] at hx
    have hk := mem_band.mp hx
    rw [hw]
    show summed m c (k + 1) ((oM.access (Rect.unit (s := S4096x1024) off S256x1024.size inb)).emb x)
      = (FloatOps.addf (summed m c k ((oM.access (Rect.unit (s := S4096x1024) off S256x1024.size inb)).emb x) : F .f32)
          (landed m c ((oM.access (Rect.unit (s := S4096x1024) off S256x1024.size inb)).emb x)) : F .f32)
    unfold summed
    rw [hk, if_pos (Nat.lt_succ_self k), if_neg (Nat.lt_irrefl k)]
  · rw [View.write_of_not_mem _ _ _ (by rw [View.setOn_univ]; exact hi)]
    rw [hset] at hi
    have hk : (i 0).val / 256 ≠ k := fun e => hi (mem_band.mpr e)
    unfold summed
    by_cases hlt : (i 0).val / 256 < k
    · rw [if_pos hlt, if_pos (by omega)]
    · rw [if_neg hlt, if_neg (by omega)]

end Cert.Scatter
-- ==== Proof.Schedule.lean ====
/-
Who pays what into which semaphore.

Every semaphore has one round. A device's barrier semaphore is paid one unit by each of the three peers, with the
pieces of that peer's landing buffer that this device will fill. The semaphore of a landing is paid by the sender
with the landed piece; the semaphore of a departure gives the sender back the piece it passed on; the semaphore of
the local copy is paid with the output holding the columns the device keeps.

The module also fixes the levels that keep the waits free of cycles, and what each device owes at the start.
-/
module

public import proofs.«01_k».proof.Proof.Pieces
public import Idealize.ShloMosaic.Lib.Tactic

@[expose] public section

noncomputable section

namespace Cert.Scatter

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra of the proof -/

/-- The transfers' part: duties are named by the three ways. -/
abbrev UB : Type := URounds (GSem nD τ sig) (Fin 3)
/-- The ghost state: the launch's own part and the transfers'. -/
abbrev UU : Type := UR sig nD τ × UB

local notation "𝕄" => MT nD τ sig Unit (Elt F) ℕ UU ℕ

/-- The place of the launch's part, -/
abbrev EP : Emb (UR sig nD τ) (MT nD τ sig Unit (Elt F) ℕ UU ℕ) := embL
/-- and of the transfers'. -/
abbrev ER : Emb UB (MT nD τ sig Unit (Elt F) ℕ UU ℕ) := embR

/-! ## The semaphores by number -/

/-- The barrier semaphore. -/
abbrev barS : Sem sig := (SemArray.scalar (sig.barrier 0 rfl) : Sems sig S_).sem

/-- A number below 130, whatever is given. -/
def ix (i : ℕ) : Fin 130 := ⟨i % 130, Nat.mod_lt _ (by decide)⟩

/-- The DMA semaphore number `i`. -/
abbrev dmaS (i : ℕ) : DmaSem sig := (ix i : Fin 130)

/-- The launch's semaphores by number: the barrier in place of 0, the kernel's own DMA semaphores 1..129. -/
def csem (i : ℕ) : SemLoc sig := if i = 0 then .reg barS else .dma (dmaS i)

/-- The barrier's cell of a device, -/
abbrev barCell (c : Dev nD) : GSem nD τ sig := ((c : Thread nD τ), .reg barS)
/-- its DMA cell number `i`, -/
abbrev dmaCell (c : Dev nD) (i : ℕ) : GSem nD τ sig := ((c : Thread nD τ), .dma (dmaS i))
/-- and its cell number `k` of all. -/
abbrev kcell (ck : Dev nD × Fin 130) : GSem nD τ sig := ((ck.1 : Thread nD τ), csem ck.2.val)

/-- A number below 130 is left as it is. -/
theorem ix_val {i : ℕ} (h : i < 130) : (ix i).val = i := Nat.mod_eq_of_lt h
/-- Cell 0 is the barrier's, -/
theorem kcell_bar (c : Dev nD) : kcell (c, 0) = barCell c := rfl
/-- and cell `i` after it the DMA semaphore number `i`. -/
theorem kcell_dma (c : Dev nD) {i : ℕ} (h : i < 130) (h0 : i ≠ 0) : kcell (c, ix i) = dmaCell c i := by
  show ((c : Thread nD τ), csem (ix i).val) = _
  rw [ix_val h]; unfold csem; rw [if_neg h0]

/-- The landing a semaphore belongs to; 64 if none. -/
def recvIx (i : ℕ) : ℕ :=
  if i < 24 then 64 else if i < 46 then i - 24 else if i < 62 then 64 else if i < 78 then 22 + 2 * (i - 62)
  else if i < 94 then 64 else if i < 110 then 23 + 2 * (i - 94) else if i < 115 then 64 else if i < 120 then 54 + (i - 115)
  else if i < 125 then 64 else if i < 130 then 59 + (i - 125) else 64
/-- The departure a semaphore belongs to; 64 if none. -/
def sendIx (i : ℕ) : ℕ :=
  if i < 2 then 64 else if i < 24 then i - 2 else if i < 46 then 64 else if i < 62 then 22 + 2 * (i - 46)
  else if i < 78 then 64 else if i < 94 then 23 + 2 * (i - 78) else if i < 110 then 64 else if i < 115 then 54 + (i - 110)
  else if i < 120 then 64 else if i < 125 then 59 + (i - 120) else 64

/-- The semaphore of landing `n` is a DMA semaphore, not the local copy's, and belongs to landing `n`; -/
theorem recvSem_facts : ∀ n < 64, recvSem n < 130 ∧ recvSem n ≠ 0 ∧ recvSem n ≠ 1 ∧ recvIx (recvSem n) = n := by decide +kernel
/-- that of departure `n` likewise, and it belongs to no landing. -/
theorem sendSem_facts : ∀ n < 64, sendSem n < 130 ∧ sendSem n ≠ 0 ∧ sendSem n ≠ 1 ∧ recvIx (sendSem n) = 64 ∧ sendIx (sendSem n) = n := by
  decide +kernel

/-! ## The amounts -/

/-- The credit of one remote copy, -/
def N : ℕ := (fAt ![0, 0] (by decide)).view.dmaCredit
/-- and of the local copy. -/
def NL : ℕ := (oM : Memref sig .tc .vmem S4096x1024 .f32).view.dmaCredit

/-- A remote copy's credit is not zero, -/
theorem N_pos : 0 < N := View.dmaCredit_pos _ (by decide)
/-- nor is the local copy's. -/
theorem NL_pos : 0 < NL := View.dmaCredit_pos _ (by decide)

/-- Every part of the landing buffer of that size has that credit. -/
theorem fAt_credit (off : Fin 2 → ℕ) (inb) : (fAt off inb).view.dmaCredit = N := rfl

/-! ## The shares of a landed piece

A device passes a landed piece on up to twice at once and may read it meanwhile: three shares. -/

/-- The first share to lend, -/
def s1 : PosShare TreeShare := fullShare.left
/-- the second, -/
def s2 : PosShare TreeShare := fullShare.right.left
/-- and the one that stays. -/
def s3 : PosShare TreeShare := fullShare.right.right

/-- The share copy `n` reads the piece it passes on at. -/
def sh (n : ℕ) : PosShare TreeShare := if 22 ≤ n ∧ n < 54 ∧ n % 2 = 1 then s2 else s1

/-! ## The payloads -/

variable (m : (ℓ : Loc nD τ sig) → Buf (Elt F) ℓ)

/-- A device's landing buffer. -/
abbrev fL (c : Dev nD) : Loc nD τ sig := (c : Thread nD τ).loc cc0_scratch0
/-- Its argument block. -/
abbrev xL (c : Dev nD) : Loc nD τ sig := (c : Thread nD τ).loc main_arg0
/-- Its output. -/
abbrev oL (c : Dev nD) : Loc nD τ sig := (c : Thread nD τ).loc cc0_stg0_0

/-- Some contents on the piece copy `n` of device `c` fills. -/
def room (c : Dev nD) (n : ℕ) : sProp 𝕄 :=
  iprop(∃ f : Buf (Elt F) (fL (other n c)), fL (other n c) ↦[piece (row n) (col n c)]{fullShare} f)

/-- Landing `n` of device `c`, landed, at share `q`. -/
def landing (c : Dev nD) (q : PosShare TreeShare) (n : ℕ) : sProp 𝕄 := fL c ↦[piece (row n) (colIn n c)]{q} landed m c

/-- What copy `n` of device `c` gives back on departing. -/
def sendPay (c : Dev nD) (n : ℕ) : sProp 𝕄 := if n < 22 then iprop(emp) else landing m c (sh n) (from_ n)

/-- What the peer in way `d` of device `c` hands it at the barrier. -/
def barPay (c : Dev nD) (d : Fin 3) : sProp 𝕄 := bigSep ((Finset.range 64).filter fun n => way n = d) fun n => room c n

/-- What the local copy leaves. -/
def locPay (c : Dev nD) : sProp 𝕄 := oL c ↦{fullShare} kept m c

/-- What the payment into DMA semaphore `i` hands over, by what the semaphore is for. -/
def dmaPay (c : Dev nD) (i : ℕ) : sProp 𝕄 :=
  if i = 1 then locPay m c else if recvIx i < 64 then landing m c fullShare (recvIx i)
  else if sendIx i < 64 then sendPay m c (sendIx i) else iprop(emp)

/-- What a payment into any semaphore hands over. -/
def payAt (c : Dev nD) : SemLoc sig → Fin 3 → sProp 𝕄
  | .reg _, d => barPay c d
  | .dma q, _ => dmaPay m c q.val

/-- The payments into a semaphore: three into a barrier, one into a DMA semaphore. -/
def dutiesAt : SemLoc sig → Finset (Fin 3)
  | .reg _ => Finset.univ
  | .dma _ => {0}

/-- How much each pays. -/
def amountAt : SemLoc sig → ℕ
  | .reg _ => 1
  | .dma q => if q.val = 1 then NL else N

/-- It is never nothing. -/
theorem amountAt_pos (g : SemLoc sig) : 0 < amountAt g := by
  cases g with
  | reg _ => exact Nat.one_pos
  | dma q =>
    show 0 < if q.val = 1 then NL else N
    by_cases h : q.val = 1
    · rw [if_pos h]; exact NL_pos
    · rw [if_neg h]; exact N_pos

/-- The schedule: one round, number 0, on the cells of every core. -/
def Rd : Rounds.Schedule (GSem nD τ sig) (Fin 3) 𝕄 where
  duties g r := if r = 0 ∧ g.1.2 = .tc then dutiesAt g.2 else ∅
  unitless _ := False
  amount g _ _ := amountAt g.2
  payload g _ d := payAt m g.1.1 g.2 d
  amount_pos g _ _ _ := amountAt_pos g.2

/-- Each payload may be kept in an invariant: room for a copy, -/
instance room_storable (c : Dev nD) (n : ℕ) : BI.Storable (upEmb : UEmb _ 𝕄) (room (F := F) c n) := by unfold room; infer_instance
/-- a landed piece, -/
instance landing_storable (c : Dev nD) (q) (n : ℕ) : BI.Storable (upEmb : UEmb _ 𝕄) (landing (F := F) m c q n) := by unfold landing; infer_instance
/-- what a departure gives back, -/
instance sendPay_storable (c : Dev nD) (n : ℕ) : BI.Storable (upEmb : UEmb _ 𝕄) (sendPay (F := F) m c n) := by
  unfold sendPay; split <;> infer_instance
/-- what is handed over at the barrier, -/
instance barPay_storable (c : Dev nD) (d) : BI.Storable (upEmb : UEmb _ 𝕄) (barPay (F := F) c d) := by unfold barPay; infer_instance
/-- what the local copy leaves, -/
instance locPay_storable (c : Dev nD) : BI.Storable (upEmb : UEmb _ 𝕄) (locPay (F := F) m c) := by unfold locPay; infer_instance
/-- so all that a DMA semaphore hands over, -/
instance dmaPay_storable (c : Dev nD) (i : ℕ) : BI.Storable (upEmb : UEmb _ 𝕄) (dmaPay (F := F) m c i) := by
  unfold dmaPay; (repeat' split) <;> infer_instance
/-- all that any semaphore does, -/
instance payAt_storable (c : Dev nD) (g : SemLoc sig) (d) : BI.Storable (upEmb : UEmb _ 𝕄) (payAt (F := F) m c g d) := by
  rcases g with s | q
  · exact barPay_storable c d
  · exact dmaPay_storable m c q.val
/-- and every payload of the schedule. -/
instance Rd_payload_storable (g : GSem nD τ sig) (r : ℕ) (d : Fin 3) : BI.Storable (upEmb : UEmb _ 𝕄) ((Rd (F := F) m).payload g r d) :=
  payAt_storable m g.1.1 g.2 d

section Facts
variable (c : Dev nD) (i : ℕ)

/-- Three payments into a barrier, -/
theorem duties_bar : (Rd (F := F) m).duties (barCell c) 0 = Finset.univ := by dsimp only [Rd]; exact if_pos ⟨rfl, rfl⟩
/-- one into a DMA cell, -/
theorem duties_dma : (Rd (F := F) m).duties (dmaCell c i) 0 = {0} := by dsimp only [Rd]; exact if_pos ⟨rfl, rfl⟩
/-- and none after the first round. -/
theorem duties_later (g : GSem nD τ sig) : ∀ r, 1 ≤ r → (Rd (F := F) m).duties g r = ∅ :=
  fun r hr => by dsimp only [Rd]; exact if_neg fun h => by omega

/-- What a DMA cell waits for. -/
def amt (i : ℕ) : ℕ := if i = 1 then NL else N

/-- A unit each into the barrier, -/
theorem amount_bar (d : Fin 3) : (Rd (F := F) m).amount (barCell c) 0 d = 1 := rfl
/-- and the whole credit into a DMA cell. -/
theorem amount_dma {i : ℕ} (h : i < 130) (d : Fin 3) : (Rd (F := F) m).amount (dmaCell c i) 0 d = amt i := by
  show (if (ix i).val = 1 then NL else N) = amt i
  rw [ix_val h]; rfl

/-- A barrier waits for three units in all, -/
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
/-- and a DMA cell for one payment. -/
theorem expect_dma {i : ℕ} (h : i < 130) : (Rd (F := F) m).expect (dmaCell c i) 0 = amt i := by
  unfold Schedule.expect Schedule.amountOf; rw [duties_dma, Finset.sum_singleton, amount_dma m c h]

/-- What the schedule hands over at a barrier, -/
theorem payload_bar (d : Fin 3) : (Rd (F := F) m).payload (barCell c) 0 d = barPay c d := rfl
/-- and at a DMA cell. -/
theorem payload_dma {i : ℕ} (h : i < 130) (d : Fin 3) : (Rd (F := F) m).payload (dmaCell c i) 0 d = dmaPay m c i := by
  show dmaPay m c (ix i).val = dmaPay m c i
  rw [ix_val h]

/-- What a wait for all of a DMA cell's round gives, -/
theorem rest_dma {i : ℕ} (h : i < 130) :
    bigSep ((Rd (F := F) m).duties (dmaCell c i) 0 \ ∅) (fun d => (Rd (F := F) m).payload (dmaCell c i) 0 d) = dmaPay m c i := by
  rw [Finset.sdiff_empty, duties_dma, bigSep_singleton, payload_dma m c h]

/-- The copies that do not cross `y` cross `x` or go along `z`, -/
theorem range_ways : (Finset.range 64).filter (fun n => ¬ way n = 0) = (Finset.range 64).filter (fun n => way n = 1) ∪ (Finset.range 64).filter (fun n => way n = 2) := by
  decide +kernel
/-- and none does both. -/
theorem ways_disjoint : Disjoint ((Finset.range 64).filter (fun n => way n = 1)) ((Finset.range 64).filter (fun n => way n = 2)) := by
  rw [Finset.disjoint_filter]; intro n _ h h'; rw [h] at h'; exact absurd h' (by decide)

/-- Something for every copy is that for the copies of each way. -/
theorem by_way (Φ : ℕ → sProp 𝕄) : bigSep (Finset.range 64) Φ
    = bigSep Finset.univ fun d : Fin 3 => bigSep ((Finset.range 64).filter fun n => way n = d) Φ := by
  rw [bigSep_univ_eq_bigSepL [0, 1, 2] (by decide) (by decide)]
  show _ = iprop(bigSep ((Finset.range 64).filter fun n => way n = 0) Φ ∗ bigSep ((Finset.range 64).filter fun n => way n = 1) Φ
    ∗ bigSep ((Finset.range 64).filter fun n => way n = 2) Φ)
  rw [bigSep_filter_split (Finset.range 64) (fun n => way n = 0), range_ways, bigSep_union ways_disjoint]
  rfl

/-- and of the barrier's: room for all 64 copies. -/
theorem rest_bar : bigSep ((Rd (F := F) m).duties (barCell c) 0 \ ∅) (fun d => (Rd (F := F) m).payload (barCell c) 0 d)
    = bigSep (Finset.range 64) (room (F := F) c) := by
  rw [Finset.sdiff_empty, duties_bar, by_way]; rfl

/-- The semaphore of landing `n` hands over the landed piece, -/
theorem dmaPay_recv {n : ℕ} (h : n < 64) : dmaPay (F := F) m c (recvSem n) = landing m c fullShare n := by
  obtain ⟨-, -, h1, h2⟩ := recvSem_facts n h
  unfold dmaPay; rw [if_neg h1, h2, if_pos h]
/-- that of departure `n` what the copy gives back, -/
theorem dmaPay_send {n : ℕ} (h : n < 64) : dmaPay (F := F) m c (sendSem n) = sendPay m c n := by
  obtain ⟨-, -, h1, h2, h3⟩ := sendSem_facts n h
  unfold dmaPay; rw [if_neg h1, h2, h3, if_neg (Nat.lt_irrefl 64), if_pos h]
/-- and the local copy's what that copy leaves. -/
theorem dmaPay_local : dmaPay (F := F) m c 1 = locPay m c := if_pos rfl

/-- A landing's semaphore waits for one remote copy, -/
theorem amt_recv {n : ℕ} (h : n < 64) : amt (recvSem n) = N := if_neg (recvSem_facts n h).2.2.1
/-- and a departure's too. -/
theorem amt_send {n : ℕ} (h : n < 64) : amt (sendSem n) = N := if_neg (sendSem_facts n h).2.2.1

end Facts

/-! ## The levels -/

/-- Which round of copies copy `n` is of: 2 for the first, 3 for the second, 4 for the third. -/
def rank (n : ℕ) : ℕ := if n < 22 then 2 else if n < 54 then 3 else 4

/-- The level of a semaphore. -/
def levOf : SemLoc sig → ℕ
  | .reg _ => 1
  | .dma q => if recvIx q.val < 64 then rank (recvIx q.val) else 0

/-- Levels are given to the cells of the cores. -/
def L (g : GSem nD τ sig) : Finset Unit := if g.1.2 = .tc then {()} else ∅
/-- Barrier cells at 1, landings at 2, 3 and 4 in order of the three rounds of copies, all others at 0. -/
def lv (g : GSem nD τ sig) (_ : Unit) : ℕ := levOf g.2

/-- Elsewhere there is none, -/
theorem L_of_ne (g : GSem nD τ sig) (h : g.1.2 ≠ .tc) : L g = ∅ := if_neg h
/-- and there is one on a core. -/
theorem L_tc (c : Dev nD) (sm : SemLoc sig) : L ((c : Thread nD τ), sm) = {()} := if_pos rfl
/-- A landing's semaphore has the level of its copy's round, -/
theorem lev_recv {n : ℕ} (h : n < 64) : levOf (.dma (dmaS (recvSem n))) = rank n := by
  obtain ⟨h0, -, -, h2⟩ := recvSem_facts n h
  show (if recvIx (ix (recvSem n)).val < 64 then rank (recvIx (ix (recvSem n)).val) else 0) = rank n
  rw [ix_val h0, h2, if_pos h]
/-- which is above the barrier's. -/
theorem rank_pos (n : ℕ) : 2 ≤ rank n := by unfold rank; (repeat' split) <;> decide

/-! ## What is owed -/

/-- The landings of the copies from number `k` on, -/
def tail (c : Dev nD) (k : ℕ) : CellTallies nD τ sig Unit := ∑ n ∈ Finset.Ico k 64, tallyAt (dmaCell (other n c) (recvSem n)) () N

/-- all of them with a unit to the barrier of the peer along `z`, -/
def owedZ (c : Dev nD) : CellTallies nD τ sig Unit := tail c 0 + tallyAt (barCell (peerZ c)) () 1
/-- with the `x` peer's barrier, -/
def owedX (c : Dev nD) : CellTallies nD τ sig Unit := owedZ c + tallyAt (barCell (peerX c)) () 1
/-- and with the `y` peer's: all that is owed at the start. -/
def owedY (c : Dev nD) : CellTallies nD τ sig Unit := owedX c + tallyAt (barCell (peerY c)) () 1

/-- Making copy `k` takes its landing off what is owed, -/
theorem tail_step (c : Dev nD) {k : ℕ} (h : k < 64) : tail c k = tail c (k + 1) + tallyAt (dmaCell (other k c) (recvSem k)) () N := by
  unfold tail
  rw [show Finset.Ico k 64 = insert k (Finset.Ico (k + 1) 64) by ext a; simp only [Finset.mem_insert, Finset.mem_Ico]; omega,
    Finset.sum_insert (by simp only [Finset.mem_Ico]; omega), add_comm]
/-- and after all 64 nothing is owed. -/
theorem tail_end (c : Dev nD) : tail c 64 = 0 := by unfold tail; rw [Finset.Ico_self, Finset.sum_empty]

/-- What is owed for copies is owed to landings of copies still to be made, -/
theorem tail_pos {c : Dev nD} {k : ℕ} {g : GSem nD τ sig} {u : Unit} (h : 0 < tail c k g u) :
    ∃ n, k ≤ n ∧ n < 64 ∧ g = dmaCell (other n c) (recvSem n) := by
  by_contra hn
  refine absurd h ?_
  unfold tail
  rw [Finset.sum_apply, Finsupp.finset_sum_apply, Finset.sum_eq_zero]
  · exact Nat.lt_irrefl 0
  · intro n hmem
    rw [Finset.mem_Ico] at hmem
    rw [tallyAt_apply, if_neg]
    exact fun h' => hn ⟨n, hmem.1, hmem.2, h'.1⟩

/-- and at the start to landings and barriers only. -/
theorem owedY_pos {c : Dev nD} {g : GSem nD τ sig} {u : Unit} (h : 0 < owedY c g u) :
    (∃ n, n < 64 ∧ g = dmaCell (other n c) (recvSem n)) ∨ ∃ p, g = barCell p := by
  by_contra hn
  rw [not_or] at hn
  unfold owedY owedX owedZ at h
  rw [Pi.add_apply, Finsupp.add_apply, Pi.add_apply, Finsupp.add_apply, Pi.add_apply, Finsupp.add_apply, tallyAt_apply, tallyAt_apply, tallyAt_apply] at h
  rw [if_neg fun h' => hn.2 ⟨_, h'.1⟩, if_neg fun h' => hn.2 ⟨_, h'.1⟩, if_neg fun h' => hn.2 ⟨_, h'.1⟩, Nat.add_zero] at h
  obtain ⟨n, -, h1, h2⟩ := tail_pos h
  exact hn.1 ⟨n, h1, h2⟩

/-- A device may wait on a cell below all landings it still owes. -/
theorem mayWait_tail (c : Dev nD) (sm : SemLoc sig) (k : ℕ) (h : ∀ n, k ≤ n → n < 64 → levOf sm < rank n) :
    (levAts L lv : sProp 𝕄) ⊢ MayWait (c : Thread nD τ) sm () (tail c k) :=
  MayOwe.of_cut (L := L) (lev := lv) (levOf sm) (fun p hp => by rw [Finset.mem_singleton.mp hp, L_tc]; exact Finset.mem_singleton_self _)
    (fun g u hg => by obtain ⟨n, -, -, rfl⟩ := tail_pos hg; exact Finset.mem_singleton_self _)
    (fun p hp => by rw [Finset.mem_singleton.mp hp]; rfl)
    (fun g u hg => by obtain ⟨n, h1, h2, rfl⟩ := tail_pos hg; show levOf sm < levOf _; rw [lev_recv h2]; exact h n h1 h2)

/-- Waits on level 0 are allowed from the start. -/
theorem mayWait_start (c : Dev nD) (q : DmaSem sig) (hq : levOf (.dma q) = 0) :
    (levAts L lv : sProp 𝕄) ⊢ MayWait (c : Thread nD τ) (.dma q) () (owedY c) :=
  MayOwe.of_cut (L := L) (lev := lv) 0 (fun p hp => by rw [Finset.mem_singleton.mp hp, L_tc]; exact Finset.mem_singleton_self _)
    (fun g u hg => by rcases owedY_pos hg with ⟨n, -, rfl⟩ | ⟨p, rfl⟩ <;> exact Finset.mem_singleton_self _)
    (fun p hp => by rw [Finset.mem_singleton.mp hp]; exact le_of_eq hq)
    (fun g u hg => by
      rcases owedY_pos hg with ⟨n, h, rfl⟩ | ⟨p, rfl⟩
      · show 0 < levOf _; rw [lev_recv h]; exact Nat.lt_of_lt_of_le (by decide) (rank_pos n)
      · exact Nat.one_pos)

end Cert.Scatter
-- ==== Proof.Rules.lean ====
/-
One rule per kind of operation.

A copy that leaves, a wait on a DMA semaphore, the local copy, the three signals and the wait at the barrier: each is
stated once, for any number, in terms of the plan.
-/
module

public import proofs.«01_k».proof.Proof.Schedule

@[expose] public section

set_option maxRecDepth 20000

noncomputable section

namespace Cert.Scatter

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a measure. -/
abbrev 𝒱₀ : Variants := Variants.none

variable (m : (ℓ : Loc nD τ sig) → Buf (Elt F) ℓ) (K : Dev nD × Fin 130 → ℕ)

/-! ## What every device knows -/

/-- The invariants of all cells, that each has reached its round, and the levels. -/
def records : sProp 𝕄 :=
  iprop((bigSep Finset.univ fun ck : Dev nD × Fin 130 => cellInv ER (Rd m) (K ck) (kcell ck))
    ∗ (bigSep Finset.univ fun ck : Dev nD × Fin 130 => reached ER (kcell ck) 0) ∗ (levAts L lv : sProp 𝕄))

/-- They may be used again and again. -/
instance records_persistent : BI.Persistent (records (F := F) m K) := by unfold records; infer_instance

/-- Of any cell the invariant is known, -/
theorem inv_at (ck : Dev nD × Fin 130) : records (F := F) m K ⊢ cellInv ER (Rd m) (K ck) (kcell ck) :=
  (show records m K ⊢ bigSep Finset.univ fun ck : Dev nD × Fin 130 => cellInv ER (Rd m) (K ck) (kcell ck) by
    unfold records; iintro ⟨H, -⟩; iexact H).trans (bigSep_elim (Finset.mem_univ ck))
/-- and that it has reached its round; -/
theorem reached_at (ck : Dev nD × Fin 130) : records (F := F) m K ⊢ reached ER (kcell ck) 0 :=
  (show records m K ⊢ bigSep Finset.univ fun ck : Dev nD × Fin 130 => reached ER (kcell ck) 0 by
    unfold records; iintro ⟨-, H, -⟩; iexact H).trans (bigSep_elim (Finset.mem_univ ck))
/-- and so are the levels. -/
theorem levels_known : records (F := F) m K ⊢ (levAts L lv : sProp 𝕄) := by unfold records; iintro ⟨-, -, H⟩; iexact H

/-- A device may wait below all landings it still owes. -/
theorem may_wait (c : Dev nD) (sm : SemLoc sig) (n : ℕ) (h : ∀ n', n ≤ n' → n' < 64 → levOf sm < rank n') :
    records (F := F) m K ⊢ MayWait (c : Thread nD τ) sm () (tail c n) := by
  have h1 : records (F := F) m K ⊢ (levAts L lv : sProp 𝕄) := levels_known (F := F) m K
  refine h1.trans ?_
  exact mayWait_tail c sm n h

/-- The same of a DMA cell by its number, -/
theorem inv_dma (c : Dev nD) {i : ℕ} (h : i < 130) (h0 : i ≠ 0) : records m K ⊢ cellInv ER (Rd m) (K (c, ix i)) (dmaCell c i) :=
  (inv_at m K (c, ix i)).trans (Entails.of_eq (by rw [kcell_dma c h h0]))
/-- invariant and round. -/
theorem reached_dma (c : Dev nD) {i : ℕ} (h : i < 130) (h0 : i ≠ 0) : records m K ⊢ reached ER (dmaCell c i) 0 :=
  (reached_at m K (c, ix i)).trans (Entails.of_eq (by rw [kcell_dma c h h0]))

/-- What a device owes when it has made copies `0 .. n-1`. -/
def owing (c : Dev nD) (n : ℕ) : sProp 𝕄 := iprop(∃ W, owes (c : Thread nD τ) (tail c n) W)

/-! ## A copy that leaves -/

/-- Copy `n` of device `c`, from any source that reads as the landing asks and whose share makes the departure's
    payment: it takes the room at the receiver and the two tokens, and one landing less is owed. -/
theorem wp_leave {n : ℕ} (hn : n < 64) (c p : Dev nD) (hp : p = other n c) {sp : Space} {src : Memref sig .tc sp S256x256 .f32}
    {off : Fin 2 → ℕ} {inb : ∀ a, off a + S256x256.size a ≤ S4096x1024.size a} {ss rs : DmaSem sig}
    (hss : ss = dmaS (sendSem n)) (hrs : rs = dmaS (recvSem n)) (ho : off = ![256 * row n, 256 * col n c])
    {hsc : (fAt off inb : Memref sig (Dev.tc p : Thread nD τ).2.kind .vmem S256x256 .f32).view.ref.isScScratch = false}
    {hsrc : src.view.WordExact} {hdst : (fAt off inb).view.WordExact}
    {hsem : DmaTarget.Typed sp (.dma rs) (.remote (Dev.tc p : Thread nD τ) (fAt off inb) (.dma ss) hsc)}
    {q : PosShare TreeShare} {fs : Buf (Elt F) (src.view.loc (c : Thread nD τ))}
    (hback : (src.view.loc (c : Thread nD τ) ↦[src.view.set]{q} fs) ⊢ sendPay m c n)
    (hland : ∀ x, (fAt off inb).view.read (Elt F) (landed m (other n c)) x = src.view.read (Elt F) fs x)
    {α : Type} {Q : α → sProp 𝕄} {k : PUnit → Prog (TpuEff nD τ sig (Elt F) Λ₀ .tc) α} :
    iprop(records m K ∗ (src.view.loc (c : Thread nD τ) ↦[src.view.set]{q} fs) ∗ room c n ∗ owing c n
        ∗ dutyTok ER (dmaCell c (sendSem n)) 0 (0 : Fin 3) ∗ dutyTok ER (dmaCell (other n c) (recvSem n)) 0 (0 : Fin 3))
      ⊢ iprop(((cred (tallyAt (dmaCell c (sendSem n)) () N) ∗ owing c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) (fAt off inb) (.dma ss) hsc) (.dma rs) hsrc hdst hsem) k) Q) := by
  subst hp hss hrs
  obtain ⟨hs, hs0, -⟩ := sendSem_facts n hn
  obtain ⟨hr, hr0, -⟩ := recvSem_facts n hn
  unfold room owing
  iintro ⟨#HR, Hsrc, ⟨%fd, Hdst⟩, ⟨%W, HO⟩, HtS, HtR⟩ Hk
  ihave HIs := (inv_dma m K c hs hs0) $$ HR
  ihave HIr := (inv_dma m K (other n c) hr hr0) $$ HR
  ihave Hrs := (reached_dma m K c hs hs0) $$ HR
  ihave Hrr := (reached_dma m K (other n c) hr hr0) $$ HR
  iapply (Rounds.wp_send_pointsTo 𝒱₀ ER (Rd m) (c : Thread nD τ) none (κ₁ := K (c, ix (sendSem n))) (κ₂ := K (other n c, ix (recvSem n)))
    (r₁ := 0) (r₂ := 0) (d₁ := 0) (d₂ := 0) (q := q) (fs := fs) (fd := fd) (hsc := hsc) (hsrc := hsrc) (hdst := hdst) (hsem := hsem)
    (by rw [duties_dma]; exact Finset.mem_singleton_self _) (by rw [duties_dma]; exact Finset.mem_singleton_self _)
    () () N rfl (by rw [amount_dma m c hs, amt_send hn]) (by rw [amount_dma m (other n c) hr, amt_recv hn])
    (tail c (n + 1)) (tail_step c hn) (W := W)
    (by rw [payload_dma m c hs, dmaPay_send m c hn]; exact hback)
    (by
      rw [payload_dma m (other n c) hr, dmaPay_recv m (other n c) hn, pointsTo_congr (write_agrees (fAt off inb).view fd (landed m (other n c)) hland)]
      unfold landing colIn
      rw [other_other, ← fAt_set (inb := inb) ho])) $$ [HIs HIr Hsrc Hdst HO HtS Hrs HtR Hrr]
  · isplitl [HIs]; · iexact HIs
    isplitl [HIr]; · iexact HIr
    isplitl [Hsrc]; · iexact Hsrc
    isplitl [Hdst]; · rw [fAt_set ho]; iexact Hdst
    isplitl [HO]; · iexact HO
    isplitl [HtS]; · iexact HtS
    isplitl [Hrs]; · iexact Hrs
    isplitl [HtR]; · iexact HtR
    iexact Hrr
  iintro ⟨Hc, HO⟩
  iapply Hk
  isplitl [Hc]; · iexact Hc
  iexists W; iexact HO

/-! ## A wait on a DMA semaphore -/

/-- A wait for the whole round of DMA cell `i`: the payment comes, and the cell is closed with its counter at zero. -/
theorem wp_arrive {i : ℕ} (hi : i < 130) (h0 : i ≠ 0) (c : Dev nD) {n : ℕ} {q : DmaSem sig} (hq : q = dmaS i)
    (hlev : ∀ n', n ≤ n' → n' < 64 → levOf (.dma (dmaS i)) < rank n')
    {sp sp' : Space} {s s' : Shape} {e e' : EltTy} {src : Memref sig .tc sp' s' e'} {dst : Memref sig .tc sp s e}
    {hsrc : src.view.WordExact} {hdst : dst.view.WordExact} (hamt : dst.view.dmaCredit = amt i)
    {α : Type} {Q : α → sProp 𝕄} {k : PUnit → Prog (TpuEff nD τ sig (Elt F) Λ₀ .tc) α} :
    iprop(records m K ∗ cred (tallyAt (dmaCell c i) () (amt i)) ∗ owing c n ∗ atPos ER (dmaCell c i) 0 ∅ 0)
      ⊢ iprop(((dmaPay m c i ∗ owing c n ∗ semVal (dmaCell c i) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold owing
  iintro ⟨#HR, Hc, ⟨%W, HO⟩, Hat⟩ Hk
  ihave #HI := (inv_dma m K c hi h0) $$ HR
  iapply (Rounds.wp_wait_rest_token 𝒱₀ ER (Rd m) (c : Thread nD τ) none (κ := K (c, ix i))
      (wpE_waitDma2_eq 𝒱₀ (c : Thread nD τ) none Set.univ) (Set.mem_univ _) () (O := tail c n) (W := W) (R := 0) (m := 0) (T := ∅)
      (by rw [Nat.zero_add, expect_dma m c hi, hamt])) $$ [Hc HO Hat]
  · isplitr; · iexact HI
    isplitl [Hc]; · rw [hamt]; iexact Hc
    isplitl [HO]; · iexact HO
    isplitr
    · iapply (may_wait m K c (.dma (dmaS i)) n hlev); iexact HR
    iexact Hat
  iintro ⟨HO, Hat, -, Hpay⟩
  imod (Rounds.cell_close ER (Rd m) (Set.mem_univ (K (c, ix i))) (fun h => h) (R := 0 + 1) (duties_later m (dmaCell c i))) $$ [Hat] with Hz
  · isplitr; · iexact HI
    iexact Hat
  iapply Hk
  isplitl [Hpay]; · iapply (Entails.of_eq (rest_dma m c hi)); iexact Hpay
  isplitl [HO]; · iexists _; iexact HO
  iexact Hz

/-! ## The local copy -/

/-- The start of the local copy: the output goes with it, and comes back at the wait. -/
theorem wp_local (c : Dev nD) {q : DmaSem sig} (hq : q = dmaS 1) {offx : Fin 3 → ℕ} {inbx : ∀ a, offx a + S1x4096x1024.size a ≤ S1x4096x2048.size a}
    (hx : offx = ![0, 0, 1024 * yOf c]) {hsrc : (xHalf offx inbx).view.WordExact} {hdst : oM.view.WordExact}
    {hsem : DmaTarget.Typed (nD := nD) (τ := τ) (p := .tc) .hbm (.dma q) (.here oM)} {sh : PosShare TreeShare} (fd : Buf (Elt F) (oL c))
    {α : Type} {Q : α → sProp 𝕄} {k : PUnit → Prog (TpuEff nD τ sig (Elt F) Λ₀ .tc) α} :
    iprop(records m K ∗ (xL c ↦{sh} argOf m c) ∗ (oL c ↦{fullShare} fd) ∗ dutyTok ER (dmaCell c 1) 0 (0 : Fin 3))
      ⊢ iprop((cred (tallyAt (dmaCell c 1) () (amt 1)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xHalf offx inbx) (.here oM) (.dma q) hsrc hdst hsem) k) Q) := by
  subst hq
  iintro ⟨#HR, Hx, Ho, Ht⟩ Hk
  ihave HI := (inv_dma m K c (i := 1) (by decide) (by decide)) $$ HR
  ihave Hr := (reached_dma m K c (i := 1) (by decide) (by decide)) $$ HR
  ihave Hx2 := (pointsTo_split_subset (ℓ := xL c) (I := (xHalf offx inbx).view.set) (Finset.subset_univ _)).1 $$ Hx
  icases Hx2 with ⟨Hx, -⟩
  have hpay : iprop((oL c ↦[(oM : Memref sig .tc .vmem S4096x1024 .f32).view.set]{fullShare}
        (oM : Memref sig .tc .vmem S4096x1024 .f32).view.write (Elt F) fd ((xHalf offx inbx).view.read (Elt F) (argOf m c)) Finset.univ)
      ∗ (xL c ↦[(xHalf offx inbx).view.set]{sh} argOf m c)) ⊢ (Rd m).payload (dmaCell c 1) 0 0 := by
    rw [payload_dma m c (by decide), dmaPay_local, land_local m c hx]
    unfold locPay
    rw [show (oM : Memref sig .tc .vmem S4096x1024 .f32).view.write (Elt F) fd (kept m c) Finset.univ = kept m c from View.write_whole_univ _ _ _,
      show (oM : Memref sig .tc .vmem S4096x1024 .f32).view.set = Finset.univ from View.set_whole _]
    iintro ⟨H, -⟩; iexact H
  have hN : (oM : Memref sig .tc .vmem S4096x1024 .f32).view.amount (.dma (dmaS 1)) = amt 1 := (if_pos rfl).symm
  iapply (Rounds.wp_copy_pointsTo 𝒱₀ ER (Rd m) (c : Thread nD τ) none (κ := K (c, ix 1)) (r := 0) (d := 0)
    (src := xHalf offx inbx) (dst := oM) (sem := .dma (dmaS 1)) (hsrc := hsrc) (hdst := hdst) (hsem := hsem) (q := sh) (fs := argOf m c) (fd := fd)
    (by rw [duties_dma]; exact Finset.mem_singleton_self _) () (amt 1) hN (amount_dma m c (by decide) 0) hpay) $$ [HI Hr Hx Ho Ht]
  · isplitl [HI]; · iexact HI
    isplitl [Hx]; · iexact Hx
    isplitl [Ho]; · rw [show (oM : Memref sig .tc .vmem S4096x1024 .f32).view.set = Finset.univ from View.set_whole _]; iexact Ho
    isplitl [Ht]; · iexact Ht
    iexact Hr
  iexact Hk

/-! ## The barrier -/

/-- A signal to the barrier of the peer in way `d`, with the pieces of this device's landing buffer that peer will fill. -/
theorem wp_greet (c p : Dev nD) (d : Fin 3) (hp : p = peer d c) {O₀ : CellTallies nD τ sig Unit} (O : CellTallies nD τ sig Unit)
    (hO : O₀ = O + tallyAt (barCell (peer d c)) () 1) {W : Waits sig Unit}
    {α : Type} {Q : α → sProp 𝕄} {k : PUnit → Prog (TpuEff nD τ sig (Elt F) Λ₀ .tc) α} :
    iprop(records m K ∗ owes (c : Thread nD τ) O₀ W ∗ dutyTok ER (barCell (peer d c)) 0 d ∗ barPay (peer d c) d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
            (Prog.bind (semSignalWord p barS 1#32) k) Q) := by
  subst hp
  simp only [semSignalWord, Prog.lift, Prog.bind_op, Prog.bind_ret, Prog.pure_eq_ret]
  iintro ⟨#HR, HO, Ht, Hp⟩ Hk
  ihave HI := (inv_at m K (peer d c, 0)) $$ HR
  ihave Hr := (reached_at m K (peer d c, 0)) $$ HR
  iapply (Rounds.wp_signal 𝒱₀ ER (Rd m) (c : Thread nD τ) none (dst := (peer d c : Thread nD τ)) (κ := K (peer d c, 0))
      (d := d) (by rw [duties_bar]; exact Finset.mem_univ _) ((amount_bar m (peer d c) d).trans (by decide)) () O hO)
    $$ [HI HO Ht Hp Hr]
  · isplitl [HI]; · iexact HI
    isplitl [HO]; · iexact HO
    isplitl [Ht]; · iexact Ht
    isplitl [Hp]; · rw [payload_bar]; iexact Hp
    iexact Hr
  iexact Hk

/-- The wait for all three peers: room for all 64 copies. -/
theorem wp_met (c : Dev nD) {W : Waits sig Unit} {α : Type} {Q : α → sProp 𝕄} {k : PUnit → Prog (TpuEff nD τ sig (Elt F) Λ₀ .tc) α} :
    iprop(records m K ∗ cred (tallyAt (barCell c) () 3) ∗ owes (c : Thread nD τ) (tail c 0) W ∗ atPos ER (barCell c) 0 ∅ 0)
      ⊢ iprop(((bigSep (Finset.range 64) (room c) ∗ owing c 0 ∗ semVal (barCell c) 0) -∗ wp frame (wpE (defs₀ (F := F)) 𝒱₀ (c : Thread nD τ) none) Set.univ (k ⟨⟩) Q)
          -∗ wp frame (wpE (defs₀ (F := F)) 𝒱₀ (c : Thread nD τ) none) Set.univ (Prog.bind (semWaitWord barS 3#32) k) Q) := by
  simp only [semWaitWord, Prog.lift, Prog.bind_op, Prog.bind_ret, Prog.pure_eq_ret]
  iintro ⟨#HR, Hc, HO, Hat⟩ Hk
  ihave #HI := (inv_at m K (c, 0)) $$ HR
  iapply (Rounds.wp_wait_rest_token 𝒱₀ ER (Rd m) (c : Thread nD τ) none (κ := K (c, 0))
      (wpE_semWait_eq 𝒱₀ (c : Thread nD τ) none Set.univ) (Set.mem_univ _) () (O := tail c 0) (W := W) (R := 0) (m := 0) (T := ∅)
      (by rw [expect_bar]; decide)) $$ [Hc HO Hat]
  · isplitr; · iexact HI
    isplitl [Hc]; · iexact Hc
    isplitl [HO]; · iexact HO
    isplitr
    · iapply (may_wait m K c (.reg barS) 0 fun n _ _ => Nat.lt_of_lt_of_le (show levOf (.reg barS) < 2 by decide) (rank_pos n)); iexact HR
    iexact Hat
  iintro ⟨HO, Hat, -, Hpay⟩
  imod (Rounds.cell_close ER (Rd m) (Set.mem_univ (K (c, 0))) (fun h => h) (R := 0 + 1) (duties_later m (barCell c))) $$ [Hat] with Hz
  · isplitr; · iexact HI
    iexact Hat
  iapply Hk
  isplitl [Hpay]; · iapply (Entails.of_eq (rest_bar m c)); iexact Hpay
  isplitl [HO]; · unfold owing; iexists _; iexact HO
  iexact Hz

end Cert.Scatter
-- ==== Proof.Order.lean ====
/-
The order of the waits, and what a device holds of the pieces that have landed.

A device waits for its 64 landings in one order and for its 64 departures in another.  Of a landed piece it holds three
shares, of which two leave for a while when the piece is passed on.
-/
module

public import proofs.«01_k».proof.Proof.Rules

@[expose] public section

set_option maxRecDepth 20000

noncomputable section

namespace Cert.Scatter

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The two orders -/

/-- The landing waited for in place `j`: the first 16, those passed on once, the other four of rows 0 to 5, those passed on twice. -/
def wt (j : ℕ) : ℕ := if j < 16 then j else if j < 48 then j + 6 else if j < 54 then j - 32 else j
/-- The place of a landing. -/
def place (p : ℕ) : ℕ := if p < 16 then p else if p < 22 then p + 32 else if p < 54 then p - 6 else p
/-- The departure waited for in place `j`: across `y`, then those across `x`, those along `z`, and the last ten. -/
def st (j : ℕ) : ℕ := if j < 22 then j else if j < 38 then 22 + 2 * (j - 22) else if j < 54 then 23 + 2 * (j - 38) else j
/-- The place of a departure. -/
def stPlace (n : ℕ) : ℕ := if n < 22 then n else if n < 54 then (if n % 2 = 0 then 22 + (n - 22) / 2 else 38 + (n - 22) / 2) else n

/-- The landing in a landing's place is that landing, -/
theorem wt_place : ∀ p < 64, wt (place p) = p ∧ place p < 64 := by decide +kernel
/-- and the place of the landing in place `j` is `j`. -/
theorem place_wt : ∀ j < 64, place (wt j) = j ∧ wt j < 64 := by decide +kernel
/-- The departure in a departure's place is that departure, -/
theorem st_place : ∀ p < 64, st (stPlace p) = p ∧ stPlace p < 64 := by decide +kernel
/-- and the place of the departure in place `j` is `j`. -/
theorem place_st : ∀ j < 64, stPlace (st j) = j ∧ st j < 64 := by decide +kernel

/-- The places of the landings are all places, -/
theorem range_wt : (Finset.range 64).image wt = Finset.range 64 := by decide +kernel
/-- and so are those of the departures. -/
theorem range_st : (Finset.range 64).image st = Finset.range 64 := by decide +kernel

/-- What is owned for each number below 64 is owned for each in another order. -/
theorem bigSep_perm (f g : ℕ → ℕ) (h : ∀ j < 64, g (f j) = j) (hr : (Finset.range 64).image f = Finset.range 64) (Φ : ℕ → sProp 𝕄) :
    bigSep (Finset.range 64) Φ = bigSep (Finset.range 64) fun j => Φ (f j) := by
  have hinj : ∀ j ∈ Finset.range 64, ∀ j' ∈ Finset.range 64, f j = f j' → j = j' := fun j hj j' hj' e => by
    rw [← h j (Finset.mem_range.mp hj), e, h j' (Finset.mem_range.mp hj')]
  have key : ∀ S : Finset ℕ, S ⊆ Finset.range 64 → bigSep (S.image f) Φ = bigSep S fun j => Φ (f j) := by
    intro S
    induction S using Finset.induction_on with
    | empty => intro _; rw [Finset.image_empty, bigSep_empty, bigSep_empty]
    | insert a S ha ih =>
      intro hS
      have hn : f a ∉ S.image f := by
        rw [Finset.mem_image]
        rintro ⟨b, hb, e⟩
        exact ha (hinj b (hS (Finset.mem_insert_of_mem hb)) a (hS (Finset.mem_insert_self a S)) e ▸ hb)
      rw [Finset.image_insert, bigSep_insert hn, bigSep_insert ha, ih ((Finset.subset_insert a S).trans hS)]
  have := key (Finset.range 64) (Finset.Subset.refl _)
  rwa [hr] at this

/-- So for the landings in the order of waiting, -/
theorem by_wt (Φ : ℕ → sProp 𝕄) : bigSep (Finset.range 64) Φ = bigSep (Finset.range 64) fun j => Φ (wt j) :=
  bigSep_perm wt place (fun j hj => (place_wt j hj).1) range_wt Φ
/-- and for the departures. -/
theorem by_st (Φ : ℕ → sProp 𝕄) : bigSep (Finset.range 64) Φ = bigSep (Finset.range 64) fun j => Φ (st j) :=
  bigSep_perm st stPlace (fun j hj => (place_st j hj).1) range_st Φ

/-- One more from below, -/
theorem grow (Φ : ℕ → sProp 𝕄) (w : ℕ) : bigSep (Finset.range (w + 1)) Φ = iprop(Φ w ∗ bigSep (Finset.range w) Φ) := by
  rw [Finset.range_add_one, bigSep_insert Finset.notMem_range_self]; rfl
/-- and one less from above. -/
theorem shrink (Φ : ℕ → sProp 𝕄) {n : ℕ} (h : n < 64) : bigSep (Finset.Ico n 64) Φ = iprop(Φ n ∗ bigSep (Finset.Ico (n + 1) 64) Φ) := by
  rw [show Finset.Ico n 64 = insert n (Finset.Ico (n + 1) 64) by ext a; simp only [Finset.mem_insert, Finset.mem_Ico]; omega,
    bigSep_insert (by simp only [Finset.mem_Ico]; omega)]
  rfl

/-! ## The shares of a landed piece -/

variable (m : (ℓ : Loc nD τ sig) → Buf (Elt F) ℓ)

/-- Which of the two lent shares copy `n` reads at, -/
def odd (n : ℕ) : Bool := decide (22 ≤ n ∧ n < 54 ∧ n % 2 = 1)
/-- that share, -/
def lent (b : Bool) : PosShare TreeShare := if b then s2 else s1
/-- and the copy that reads landing `p` at it; 64 if none. -/
def takes (b : Bool) (p : ℕ) : ℕ :=
  if b then (if p < 16 then 23 + 2 * p else 64)
  else if p < 16 then 22 + 2 * p
  else if 35 ≤ p ∧ p < 45 ∧ p % 2 = 1 then 54 + (p - 35) / 2 else if 44 ≤ p ∧ p < 54 ∧ p % 2 = 0 then 59 + (p - 44) / 2 else 64

/-- The share that copy `n` reads at is the one named. -/
theorem sh_lent (n : ℕ) : sh n = lent (odd n) := by
  unfold sh lent odd; by_cases h : 22 ≤ n ∧ n < 54 ∧ n % 2 = 1
  · rw [if_pos h, decide_eq_true h]; rfl
  · rw [if_neg h, decide_eq_false h]; rfl

/-- Copy `n` takes its share of the landing it passes on, and of no other landing, and the other share of none. -/
theorem takes_facts : ∀ n < 64, 22 ≤ n → takes (odd n) (from_ n) = n ∧ (∀ j < 64, j ≠ place (from_ n) → takes (odd n) (wt j) ≠ n)
    ∧ ∀ j < 64, takes (!odd n) (wt j) ≠ n := by decide +kernel
/-- Only copies from 22 on take a share. -/
theorem takes_late : ∀ b : Bool, ∀ p < 64, 22 ≤ takes b p := by decide +kernel

/-- Share `b` of landing `p`, unless one of the copies before `n` has taken it. -/
def held (c : Dev nD) (n : ℕ) (b : Bool) (p : ℕ) : sProp 𝕄 := if takes b p < n then iprop(emp) else landing m c (lent b) p

/-- A copy that does not take a share leaves it held. -/
theorem held_next (c : Dev nD) {n : ℕ} {b : Bool} {p : ℕ} (h : takes b p ≠ n) : held (F := F) m c n b p = held m c (n + 1) b p := by
  unfold held
  by_cases h' : takes b p < n
  · rw [if_pos h', if_pos (Nat.lt_succ_of_lt h')]
  · rw [if_neg h', if_neg (by omega)]

/-- What is held of the first `w` landings in order of waiting, copies before `n` being made. -/
def heldAll (c : Dev nD) (w n : ℕ) : sProp 𝕄 :=
  iprop((bigSep (Finset.range w) fun j => held m c n false (wt j)) ∗ bigSep (Finset.range w) fun j => held m c n true (wt j))

/-- Copy `n` takes the share it reads at out of what is held at that share, -/
theorem held_taken (c : Dev nD) {w n : ℕ} (hw : w ≤ 64) (hn : n < 64) (hn' : 22 ≤ n) (hp : place (from_ n) < w) :
    (bigSep (Finset.range w) fun j => held (F := F) m c n (odd n) (wt j))
      = iprop(landing m c (sh n) (from_ n) ∗ bigSep (Finset.range w) fun j => held m c (n + 1) (odd n) (wt j)) := by
  obtain ⟨h1, h2, -⟩ := takes_facts n hn hn'
  rw [bigSep_erase (Finset.mem_range.mpr hp)]
  rw [bigSep_erase (s := Finset.range w) (Finset.mem_range.mpr hp) (Φ := fun j => held m c (n + 1) (odd n) (wt j))]
  rw [(wt_place (from_ n) (from_lt n hn hn')).1]
  rw [show held (F := F) m c n (odd n) (from_ n) = landing m c (sh n) (from_ n) by
    unfold held; rw [if_neg (by omega), sh_lent]]
  rw [show held (F := F) m c (n + 1) (odd n) (from_ n) = iprop(emp) by unfold held; rw [if_pos (by omega)]]
  have hrest : (bigSep ((Finset.range w).erase (place (from_ n))) fun j => held (F := F) m c n (odd n) (wt j))
      = bigSep ((Finset.range w).erase (place (from_ n))) fun j => held m c (n + 1) (odd n) (wt j) := bigSep_congr fun j hj => by
    rw [Finset.mem_erase, Finset.mem_range] at hj
    exact held_next m c (h2 j (by omega) hj.1)
  rw [hrest]
  exact congrArg (fun X : sProp 𝕄 => iprop(landing m c (sh n) (from_ n) ∗ X)) (BI.equiv_iff.mp emp_sep).symm

/-- and changes nothing of what is held at the other. -/
theorem held_other (c : Dev nD) {w n : ℕ} (hw : w ≤ 64) (hn : n < 64) (hn' : 22 ≤ n) :
    (bigSep (Finset.range w) fun j => held (F := F) m c n (!odd n) (wt j)) = bigSep (Finset.range w) fun j => held m c (n + 1) (!odd n) (wt j) :=
  bigSep_congr fun j hj => held_next m c ((takes_facts n hn hn').2.2 j (by rw [Finset.mem_range] at hj; omega))

/-- Copy `n` takes one share of one landed piece; the rest stays, -/
theorem heldAll_take (c : Dev nD) {w n : ℕ} (hw : w ≤ 64) (hn : n < 64) (hn' : 22 ≤ n) (hp : place (from_ n) < w) :
    heldAll (F := F) m c w n ⊢ iprop(landing m c (sh n) (from_ n) ∗ heldAll m c w (n + 1)) := by
  have h1 := held_taken m c hw hn hn' hp
  have h2 := held_other m c hw hn hn'
  unfold heldAll
  generalize ho : odd n = b at h1 h2
  cases b
  · rw [h1, show (true : Bool) = !false from rfl, h2]
    iintro ⟨⟨H1, H2⟩, H3⟩
    isplitl [H1]; · iexact H1
    isplitl [H2]; · iexact H2
    iexact H3
  · rw [h1, show (false : Bool) = !true from rfl, h2]
    iintro ⟨H1, ⟨H2, H3⟩⟩
    isplitl [H2]; · iexact H2
    isplitl [H1]; · iexact H1
    iexact H3
/-- and it can be put back. -/
theorem heldAll_back (c : Dev nD) {w n : ℕ} (hw : w ≤ 64) (hn : n < 64) (hn' : 22 ≤ n) (hp : place (from_ n) < w) :
    iprop(landing (F := F) m c (sh n) (from_ n) ∗ heldAll m c w (n + 1)) ⊢ heldAll m c w n := by
  have h1 := held_taken m c hw hn hn' hp
  have h2 := held_other m c hw hn hn'
  unfold heldAll
  generalize ho : odd n = b at h1 h2
  cases b
  · rw [h1, show (true : Bool) = !false from rfl, h2]
    iintro ⟨H1, H2, H3⟩
    isplitl [H1 H2]
    · isplitl [H1]; · iexact H1
      iexact H2
    iexact H3
  · rw [h1, show (false : Bool) = !true from rfl, h2]
    iintro ⟨H2, H1, H3⟩
    isplitl [H1]; · iexact H1
    isplitl [H2]; · iexact H2
    iexact H3

/-- The copies across `y` take none. -/
theorem heldAll_first (c : Dev nD) {w n : ℕ} (hw : w ≤ 64) (hn : n < 22) : heldAll (F := F) m c w n = heldAll m c w (n + 1) := by
  have h : ∀ b, (bigSep (Finset.range w) fun j => held (F := F) m c n b (wt j)) = bigSep (Finset.range w) fun j => held m c (n + 1) b (wt j) := fun b =>
    bigSep_congr fun j hj => held_next m c (by
      rw [Finset.mem_range] at hj
      have := takes_late b (wt j) (place_wt j (by omega)).2; omega)
  unfold heldAll; rw [h, h]

/-- One more landing, not yet passed on: both lent shares of it are held. -/
theorem heldAll_grow (c : Dev nD) {w n : ℕ} (h1 : n ≤ takes false (wt w)) (h2 : n ≤ takes true (wt w)) :
    iprop(landing (F := F) m c s1 (wt w) ∗ landing m c s2 (wt w) ∗ heldAll m c w n) ⊢ heldAll m c (w + 1) n := by
  unfold heldAll
  rw [grow, grow]
  rw [show held (F := F) m c n false (wt w) = landing m c s1 (wt w) by unfold held; rw [if_neg (by omega)]; rfl]
  rw [show held (F := F) m c n true (wt w) = landing m c s2 (wt w) by unfold held; rw [if_neg (by omega)]; rfl]
  iintro ⟨H1, H2, H3, H4⟩
  isplitl [H1 H3]
  · isplitl [H1]; · iexact H1
    iexact H3
  isplitl [H2]; · iexact H2
  iexact H4

/-- A landed piece is its three shares. -/
theorem landing_shares (c : Dev nD) (p : ℕ) :
    landing (F := F) m c fullShare p ⊣⊢ iprop(landing m c s1 p ∗ landing m c s2 p ∗ landing m c s3 p) := by
  unfold landing s1 s2 s3
  have a : (fL c ↦[piece (row p) (colIn p c)]{fullShare} landed m c : sProp 𝕄)
      ⊣⊢ iprop((fL c ↦[piece (row p) (colIn p c)]{fullShare.left} landed m c) ∗ fL c ↦[piece (row p) (colIn p c)]{fullShare.right} landed m c) :=
    pointsTo_share (PosShare.mem_left_op_right fullShare)
  have b : (fL c ↦[piece (row p) (colIn p c)]{fullShare.right} landed m c : sProp 𝕄)
      ⊣⊢ iprop((fL c ↦[piece (row p) (colIn p c)]{fullShare.right.left} landed m c) ∗ fL c ↦[piece (row p) (colIn p c)]{fullShare.right.right} landed m c) :=
    pointsTo_share (PosShare.mem_left_op_right fullShare.right)
  exact ⟨a.1.trans (sep_mono_right b.1), (sep_mono_right b.2).trans a.2⟩

/-! ## Pieces together -/

/-- Landings in different places fill disjoint pieces. -/
theorem places_disjoint (c : Dev nD) {S : Finset ℕ} (hS : S ⊆ Finset.range 64) :
    ∀ j ∈ S, ∀ j' ∈ S, j ≠ j' → Disjoint (piece (row (wt j)) (colIn (wt j) c)) (piece (row (wt j')) (colIn (wt j') c)) := by
  intro j hj j' hj' hne
  rw [Finset.disjoint_left]
  intro i hi hi'
  rw [mem_piece] at hi hi'
  have hj := Finset.mem_range.mp (hS hj)
  have hj' := Finset.mem_range.mp (hS hj')
  have e : wt j = wt j' := by
    rw [← fills_landing (wt j) (place_wt j hj).2 c, ← fills_landing (wt j') (place_wt j' hj').2 c, ← hi.1, ← hi.2, ← hi'.1, ← hi'.2]
  exact hne (by rw [← (place_wt j hj).1, e, (place_wt j' hj').1])

/-- Landings at one share are the points-to of their pieces together. -/
theorem pieces_together (c : Dev nD) (q : PosShare TreeShare) (S : Finset ℕ) (hS : S ⊆ Finset.range 64) :
    (fL c ↦[S.biUnion fun j => piece (row (wt j)) (colIn (wt j) c)]{q} landed m c : sProp 𝕄) = bigSep S fun j => landing m c q (wt j) := by
  unfold landing
  exact pointsTo_biUnion (ℓ := fL c) (q := q) (f := landed m c) S (fun j => piece (row (wt j)) (colIn (wt j) c)) (places_disjoint c hS)

/-- The places of row `k`'s landings. -/
def rowPlaces (k : ℕ) : Finset ℕ := (Finset.range 64).filter fun j => row (wt j) = k

/-- The landings of row `k` are waited for by place `48 + k`. -/
theorem rowPlaces_early : ∀ k < 16, rowPlaces k ⊆ Finset.range (49 + k) := by decide +kernel

/-- The landings of row `k` fill its band, -/
theorem rowPlaces_band (c : Dev nD) {k : ℕ} (hk : k < 16) : ((rowPlaces k).biUnion fun j => piece (row (wt j)) (colIn (wt j) c)) = band k := by
  ext i
  rw [Finset.mem_biUnion, mem_band]
  constructor
  · rintro ⟨j, hj, hi⟩
    rw [mem_piece] at hi
    rw [rowPlaces, Finset.mem_filter] at hj
    rw [hi.1, hj.2]
  · intro h
    have h1 := idx1_lt i
    obtain ⟨f1, f2, f3⟩ := landing_fills k hk ((i 1).val / 256) (by omega) c
    obtain ⟨w1, w2⟩ := wt_place _ f1
    refine ⟨place (fills c k ((i 1).val / 256)), ?_, ?_⟩
    · rw [rowPlaces, Finset.mem_filter, Finset.mem_range, w1, f2]; exact ⟨w2, rfl⟩
    · rw [mem_piece, w1, f2, f3]; exact ⟨h, rfl⟩

/-- and all 64 fill the landing buffer. -/
theorem all_places (c : Dev nD) : ((Finset.range 64).biUnion fun j => piece (row (wt j)) (colIn (wt j) c)) = Finset.univ := by
  ext i
  rw [Finset.mem_biUnion]
  refine ⟨fun _ => Finset.mem_univ i, fun _ => ?_⟩
  have h0 := idx0_lt i
  have h1 := idx1_lt i
  obtain ⟨f1, f2, f3⟩ := landing_fills ((i 0).val / 256) (by omega) ((i 1).val / 256) (by omega) c
  obtain ⟨w1, w2⟩ := wt_place _ f1
  exact ⟨place (fills c ((i 0).val / 256) ((i 1).val / 256)), Finset.mem_range.mpr w2, by rw [mem_piece, w1, f2, f3]; exact ⟨rfl, rfl⟩⟩

/-- Once row `k` has landed its band can be read, at the third share. -/
theorem band_out (c : Dev nD) {k w : ℕ} (hk : k < 16) (hw : 49 + k ≤ w) :
    (bigSep (Finset.range w) fun j => landing (F := F) m c s3 (wt j))
      = iprop((fL c ↦[band k]{s3} landed m c) ∗ bigSep (Finset.range w \ rowPlaces k) fun j => landing m c s3 (wt j)) := by
  have hsub : rowPlaces k ⊆ Finset.range w := (rowPlaces_early k hk).trans (Finset.range_subset_range.mpr hw)
  rw [bigSep_sdiff_split hsub, ← pieces_together m c s3 (rowPlaces k) (Finset.filter_subset _ _), rowPlaces_band c hk]
  rfl

/-- When every copy has departed and every landing has been waited for, the landing buffer is whole again. -/
theorem all_back (c : Dev nD) (d : ℕ) (hd : d ≤ 42) :
    iprop(heldAll (F := F) m c 64 64 ∗ bigSep (Finset.Ico (64 - d) 64) (sendPay m c)) ⊢ heldAll m c 64 (64 - d) := by
  induction d with
  | zero => iintro ⟨H, -⟩; iexact H
  | succ d ih =>
    rw [shrink (sendPay m c) (n := 64 - (d + 1)) (by omega), show 64 - (d + 1) + 1 = 64 - d by omega]
    have hb := heldAll_back (F := F) m c (w := 64) (n := 64 - (d + 1)) (Nat.le_refl 64) (by omega) (by omega)
      (wt_place _ (from_lt _ (by omega) (by omega))).2
    rw [show 64 - (d + 1) + 1 = 64 - d by omega] at hb
    rw [show sendPay (F := F) m c (64 - (d + 1)) = landing m c (sh (64 - (d + 1))) (from_ (64 - (d + 1))) by
      unfold sendPay; rw [if_neg (by omega)]]
    iintro ⟨H, ⟨H1, H2⟩⟩
    iapply hb
    isplitl [H1]; · iexact H1
    iapply (ih (by omega))
    isplitl [H]; · iexact H
    iexact H2

/-- What is held, what came back and the third shares make the landing buffer whole. -/
theorem held_whole (c : Dev nD) :
    iprop(heldAll (F := F) m c 64 64 ∗ bigSep (Finset.range 64) (sendPay m c) ∗ bigSep (Finset.range 64) fun j => landing m c s3 (wt j))
      ⊢ fL c ↦{fullShare} landed m c := by
  have hsub : Finset.Ico (64 - 42) 64 ⊆ Finset.range 64 := fun a ha => by rw [Finset.mem_Ico] at ha; exact Finset.mem_range.mpr ha.2
  have h22 : ∀ b, (bigSep (Finset.range 64) fun j => held (F := F) m c (64 - 42) b (wt j)) = bigSep (Finset.range 64) fun j => landing m c (lent b) (wt j) := fun b =>
    bigSep_congr fun j hj => by
      unfold held
      rw [if_neg]
      have := takes_late b (wt j) (place_wt j (Finset.mem_range.mp hj)).2
      omega
  have hj : iprop((bigSep (Finset.range 64) fun j => landing (F := F) m c s1 (wt j)) ∗ (bigSep (Finset.range 64) fun j => landing m c s2 (wt j))
      ∗ bigSep (Finset.range 64) fun j => landing m c s3 (wt j)) ⊢ bigSep (Finset.range 64) fun j => landing m c fullShare (wt j) := by
    rw [← bigSep_sep', ← bigSep_sep']
    exact bigSep_mono fun j _ => (landing_shares m c (wt j)).2
  have hu := pieces_together (F := F) m c fullShare (Finset.range 64) (Finset.Subset.refl _)
  rw [all_places] at hu
  have hs : bigSep (Finset.range 64) (sendPay (F := F) m c) ⊢ bigSep (Finset.Ico (64 - 42) 64) (sendPay m c) := bigSep_subset hsub
  iintro ⟨H, Hs, H3⟩
  ihave Hs := hs $$ Hs
  ihave H := (all_back m c 42 (Nat.le_refl 42)) $$ [H Hs]
  · isplitl [H]; · iexact H
    iexact Hs
  unfold heldAll
  rw [h22, h22]
  icases H with ⟨H1, H2⟩
  iapply (Entails.of_eq hu.symm)
  iapply hj
  isplitl [H1]; · iexact H1
  isplitl [H2]; · iexact H2
  iexact H3

end Cert.Scatter
-- ==== Proof.Steps.lean ====
/-
A device's state between two operations, and how each operation moves it on.

The state says how many copies have been made, how many landings have been waited for, and, at the end, how many
departures.  Each step below takes the state before an operation to the state after it.
-/
module

public import proofs.«01_k».proof.Proof.Order

@[expose] public section

set_option maxRecDepth 20000

noncomputable section

namespace Cert.Scatter

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 130 → ℕ) (c : Dev nD)

/-! ## The state -/

/-- What copy `n` needs: room at the receiver, and the two tokens. -/
def ready (n : ℕ) : sProp 𝕄 :=
  iprop(room c n ∗ dutyTok ER (dmaCell c (sendSem n)) 0 (0 : Fin 3) ∗ dutyTok ER (dmaCell (other n c) (recvSem n)) 0 (0 : Fin 3))
/-- What waiting for its departure needs. -/
def gone (n : ℕ) : sProp 𝕄 := cred (tallyAt (dmaCell c (sendSem n)) () N)
/-- The position on the semaphore of departure `n`. -/
def goneAt (n : ℕ) : sProp 𝕄 := atPos ER (dmaCell c (sendSem n)) 0 ∅ 0
/-- What waiting for landing `p` needs, -/
def due (p : ℕ) : sProp 𝕄 := iprop(cred (tallyAt (dmaCell c (recvSem p)) () N) ∗ atPos ER (dmaCell c (recvSem p)) 0 ∅ 0)
/-- and that its counter is zero again. -/
def spent (p : ℕ) : sProp 𝕄 := semVal (dmaCell c (recvSem p)) 0
/-- The counter of departure `n` is zero again. -/
def spentS (n : ℕ) : sProp 𝕄 := semVal (dmaCell c (sendSem n)) 0

/-- Copies before `n` made, landings before place `w` waited for. -/
def St (n w : ℕ) (R : sProp 𝕄) : sProp 𝕄 :=
  iprop(records m K ∗ owing c n ∗ bigSep (Finset.Ico n 64) (ready (F := F) c) ∗ bigSep (Finset.range n) (gone (F := F) c)
    ∗ (bigSep (Finset.Ico w 64) fun j => due (F := F) c (wt j)) ∗ (bigSep (Finset.range w) fun j => spent (F := F) c (wt j))
    ∗ heldAll m c w n ∗ (bigSep (Finset.range w) fun j => landing m c s3 (wt j)) ∗ R)

/-- All copies made, all landings waited for, and the departures before place `e`. -/
def Dep (e : ℕ) (R : sProp 𝕄) : sProp 𝕄 :=
  iprop(records m K ∗ owing c 64 ∗ (bigSep (Finset.Ico e 64) fun j => iprop(gone (F := F) c (st j) ∗ goneAt (F := F) c (st j)))
    ∗ (bigSep (Finset.range e) fun j => iprop(spentS (F := F) c (st j) ∗ sendPay m c (st j))) ∗ R)

/-! ## Copies -/

/-- A copy of a piece of the argument across `y`. -/
theorem step_first {α : Type} {Q : α → sProp 𝕄} {R : sProp 𝕄} {n w : ℕ} (hn : n < 22) (hw : w ≤ 64) {p : Dev nD} (hp : p = other n c)
    {offx : Fin 3 → ℕ} {inbx : ∀ a, offx a + S1x256x256.size a ≤ S1x4096x2048.size a}
    {off : Fin 2 → ℕ} {inb : ∀ a, off a + S256x256.size a ≤ S4096x1024.size a} {ss rs : DmaSem sig}
    (hss : ss = dmaS (sendSem n)) (hrs : rs = dmaS (recvSem n)) (ho : off = ![256 * row n, 256 * col n c])
    (hx : offx = ![0, 256 * row n, 1024 * (1 - yOf c) + 256 * col n c])
    {hsc : (fAt off inb : Memref sig (Dev.tc p : Thread nD τ).2.kind .vmem S256x256 .f32).view.ref.isScScratch = false}
    {hsrc : (xAt offx inbx).view.WordExact} {hdst : (fAt off inb).view.WordExact}
    {hsem : DmaTarget.Typed .hbm (.dma rs) (.remote (Dev.tc p : Thread nD τ) (fAt off inb) (.dma ss) hsc)}
    {k : PUnit → Prog (TpuEff nD τ sig (Elt F) Λ₀ .tc) α} {q : PosShare TreeShare}
    (h : St m K c (n + 1) w iprop((xL c ↦{q.right} argOf m c) ∗ R) ⊢ wp frame (wpE (defs₀ (F := F)) 𝒱₀ (c : Thread nD τ) none) Set.univ (k ⟨⟩) Q) :
    St m K c n w iprop((xL c ↦{q} argOf m c) ∗ R) ⊢ wp frame (wpE (defs₀ (F := F)) 𝒱₀ (c : Thread nD τ) none) Set.univ
      (.op (.enqueueDma (xAt offx inbx) (.remote (Dev.tc p : Thread nD τ) (fAt off inb) (.dma ss) hsc) (.dma rs) hsrc hdst hsem) k) Q := by
  unfold St at h ⊢
  rw [shrink (ready c) (by omega : n < 64), grow, ← heldAll_first m c hw hn] at *
  unfold ready
  iintro ⟨#HR, HO, ⟨⟨Hroom, HtS, HtR⟩, Hrd⟩, Hg, Hd, Hz, Hh, H3, Hx, HQ⟩
  ihave Hx := (pointsTo_share (PosShare.mem_left_op_right q)).1 $$ Hx
  icases Hx with ⟨Hx1, Hx2⟩
  ihave Hx1 := (pointsTo_split_subset (ℓ := xL c) (I := (xAt offx inbx).view.set) (Finset.subset_univ _)).1 $$ Hx1
  icases Hx1 with ⟨Hx1, -⟩
  iapply (wp_leave m K (n := n) (by omega) c p hp hss hrs ho (src := xAt offx inbx) (q := q.left) (fs := argOf m c)
    (hsc := hsc) (hsrc := hsrc) (hdst := hdst) (hsem := hsem)
    (by unfold sendPay; rw [if_pos hn]; iintro -; iempintro) (land_first m hn c ho hx)) $$ [Hx1 Hroom HO HtS HtR]
  · isplitr; · iexact HR
    isplitl [Hx1]; · iexact Hx1
    isplitl [Hroom]; · iexact Hroom
    isplitl [HO]; · iexact HO
    isplitl [HtS]; · iexact HtS
    iexact HtR
  iintro ⟨Hc, HO⟩
  iapply h
  isplitr; · iexact HR
  isplitl [HO]; · iexact HO
  isplitl [Hrd]; · iexact Hrd
  isplitl [Hc Hg]
  · isplitl [Hc]; · unfold gone; iexact Hc
    iexact Hg
  isplitl [Hd]; · iexact Hd
  isplitl [Hz]; · iexact Hz
  isplitl [Hh]; · iexact Hh
  isplitl [H3]; · iexact H3
  isplitl [Hx2]; · iexact Hx2
  iexact HQ

/-- A copy of a landed piece across `x` or along `z`. -/
theorem step_pass {α : Type} {Q : α → sProp 𝕄} {R : sProp 𝕄} {n w : ℕ} (hn : n < 64) (hn' : 22 ≤ n) (hw : w ≤ 64) (hf : place (from_ n) < w) {p : Dev nD} (hp : p = other n c)
    {off : Fin 2 → ℕ} {inb : ∀ a, off a + S256x256.size a ≤ S4096x1024.size a} {ss rs : DmaSem sig}
    (hss : ss = dmaS (sendSem n)) (hrs : rs = dmaS (recvSem n)) (ho : off = ![256 * row n, 256 * col n c])
    {hsc : (fAt off inb : Memref sig (Dev.tc p : Thread nD τ).2.kind .vmem S256x256 .f32).view.ref.isScScratch = false}
    {hsrc : (fAt off inb).view.WordExact} {hdst : (fAt off inb).view.WordExact}
    {hsem : DmaTarget.Typed .vmem (.dma rs) (.remote (Dev.tc p : Thread nD τ) (fAt off inb) (.dma ss) hsc)}
    {k : PUnit → Prog (TpuEff nD τ sig (Elt F) Λ₀ .tc) α}
    (h : St m K c (n + 1) w R ⊢ wp frame (wpE (defs₀ (F := F)) 𝒱₀ (c : Thread nD τ) none) Set.univ (k ⟨⟩) Q) :
    St m K c n w R ⊢ wp frame (wpE (defs₀ (F := F)) 𝒱₀ (c : Thread nD τ) none) Set.univ
      (.op (.enqueueDma (fAt off inb) (.remote (Dev.tc p : Thread nD τ) (fAt off inb) (.dma ss) hsc) (.dma rs) hsrc hdst hsem) k) Q := by
  have hsrcpt : landing m c (sh n) (from_ n) = (fL c ↦[(fAt off inb).view.set]{sh n} landed m c : sProp 𝕄) := by
    unfold landing; rw [fAt_set ho, from_row n hn hn', from_col n hn hn' c]
  have hback : (fL c ↦[(fAt off inb).view.set]{sh n} landed m c : sProp 𝕄) ⊢ sendPay m c n := by
    rw [← hsrcpt]; unfold sendPay; rw [if_neg (by omega)]
  have htake := heldAll_take (F := F) m c hw hn hn' hf
  unfold St at h ⊢
  rw [shrink (ready c) hn]
  rw [grow] at h
  unfold ready
  iintro ⟨#HR, HO, ⟨⟨Hroom, HtS, HtR⟩, Hrd⟩, Hg, Hd, Hz, Hh, H3, HQ⟩
  ihave Hh := htake $$ Hh
  icases Hh with ⟨Hx, Hh⟩
  iapply (wp_leave m K (n := n) hn c p hp hss hrs ho (src := fAt off inb) (q := sh n) (fs := landed m c)
    (hsc := hsc) (hsrc := hsrc) (hdst := hdst) (hsem := hsem) hback (land_passed m hn hn' c ho)) $$ [Hx Hroom HO HtS HtR]
  · isplitr; · iexact HR
    isplitl [Hx]; · iapply (Entails.of_eq hsrcpt); iexact Hx
    isplitl [Hroom]; · iexact Hroom
    isplitl [HO]; · iexact HO
    isplitl [HtS]; · iexact HtS
    iexact HtR
  iintro ⟨Hc, HO⟩
  iapply h
  isplitr; · iexact HR
  isplitl [HO]; · iexact HO
  isplitl [Hrd]; · unfold ready; iexact Hrd
  isplitl [Hc Hg]
  · isplitl [Hc]; · unfold gone; iexact Hc
    iexact Hg
  isplitl [Hd]; · iexact Hd
  isplitl [Hz]; · iexact Hz
  isplitl [Hh]; · iexact Hh
  isplitl [H3]; · iexact H3
  iexact HQ

/-! ## Waits -/

/-- The wait for the landing in place `w`: its piece is there. -/
theorem step_land {α : Type} {Q : α → sProp 𝕄} {R : sProp 𝕄} {n w : ℕ} (hw : w < 64) {q : DmaSem sig} (hq : q = dmaS (recvSem (wt w)))
    (hl : ∀ n' < 64, n ≤ n' → rank (wt w) < rank n') (h1 : n ≤ takes false (wt w)) (h2 : n ≤ takes true (wt w))
    {sp sp' : Space} {s s' : Shape} {e e' : EltTy} {src : Memref sig .tc sp' s' e'} {dst : Memref sig .tc sp s e}
    {hsrc : src.view.WordExact} {hdst : dst.view.WordExact} (hamt : dst.view.dmaCredit = N)
    {k : PUnit → Prog (TpuEff nD τ sig (Elt F) Λ₀ .tc) α}
    (h : St m K c n (w + 1) R ⊢ wp frame (wpE (defs₀ (F := F)) 𝒱₀ (c : Thread nD τ) none) Set.univ (k ⟨⟩) Q) :
    St m K c n w R ⊢ wp frame (wpE (defs₀ (F := F)) 𝒱₀ (c : Thread nD τ) none) Set.univ (.op (.waitDma2 q src dst hsrc hdst) k) Q := by
  have hp := (place_wt w hw).2
  obtain ⟨hr, hr0, -⟩ := recvSem_facts (wt w) hp
  have hgrow := heldAll_grow (F := F) m c h1 h2
  unfold St at h ⊢
  rw [shrink (fun j => due (F := F) c (wt j)) hw]
  rw [grow (fun j => spent (F := F) c (wt j)), grow (fun j => landing (F := F) m c s3 (wt j))] at h
  unfold due
  iintro ⟨#HR, HO, Hrd, Hg, ⟨⟨Hc, Hat⟩, Hd⟩, Hz, Hh, H3, HQ⟩
  iapply (wp_arrive m K hr hr0 c (n := n) hq (fun n' a b => by rw [lev_recv hp]; exact hl n' b a)
    (hsrc := hsrc) (hdst := hdst) (by rw [hamt, amt_recv hp])) $$ [Hc HO Hat]
  · isplitr; · iexact HR
    isplitl [Hc]; · rw [amt_recv hp]; iexact Hc
    isplitl [HO]; · iexact HO
    iexact Hat
  rw [dmaPay_recv m c hp]
  iintro ⟨Hp, HO, Hs⟩
  ihave Hp := (landing_shares m c (wt w)).1 $$ Hp
  icases Hp with ⟨Hp1, Hp2, Hp3⟩
  iapply h
  isplitr; · iexact HR
  isplitl [HO]; · iexact HO
  isplitl [Hrd]; · iexact Hrd
  isplitl [Hg]; · iexact Hg
  isplitl [Hd]; · unfold due; iexact Hd
  isplitl [Hs Hz]
  · isplitl [Hs]; · unfold spent; iexact Hs
    iexact Hz
  isplitl [Hp1 Hp2 Hh]
  · iapply hgrow
    isplitl [Hp1]; · iexact Hp1
    isplitl [Hp2]; · iexact Hp2
    iexact Hh
  isplitl [Hp3 H3]
  · isplitl [Hp3]; · iexact Hp3
    iexact H3
  iexact HQ

/-- The wait for the local copy: the output holds the columns the device keeps. -/
theorem step_local {α : Type} {Q : α → sProp 𝕄} {R : sProp 𝕄} {n w : ℕ} (hn : n = 64) {q : DmaSem sig} (hq : q = dmaS 1)
    {sp sp' : Space} {s s' : Shape} {e e' : EltTy} {src : Memref sig .tc sp' s' e'} {dst : Memref sig .tc sp s e}
    {hsrc : src.view.WordExact} {hdst : dst.view.WordExact} (hamt : dst.view.dmaCredit = NL)
    {k : PUnit → Prog (TpuEff nD τ sig (Elt F) Λ₀ .tc) α}
    (h : St m K c n w iprop((oL c ↦{fullShare} summed m c 0) ∗ semVal (dmaCell c 1) 0 ∗ R)
      ⊢ wp frame (wpE (defs₀ (F := F)) 𝒱₀ (c : Thread nD τ) none) Set.univ (k ⟨⟩) Q) :
    St m K c n w iprop((cred (tallyAt (dmaCell c 1) () (amt 1)) ∗ atPos ER (dmaCell c 1) 0 ∅ 0) ∗ R)
      ⊢ wp frame (wpE (defs₀ (F := F)) 𝒱₀ (c : Thread nD τ) none) Set.univ (.op (.waitDma2 q src dst hsrc hdst) k) Q := by
  rw [summed_zero] at h
  unfold St at h ⊢
  iintro ⟨#HR, HO, Hrd, Hg, Hd, Hz, Hh, H3, ⟨Hc, Hat⟩, HQ⟩
  iapply (wp_arrive m K (i := 1) (by decide) (by decide) c (n := n) hq (fun n' a b => absurd b (by omega))
    (hsrc := hsrc) (hdst := hdst) (by rw [hamt]; exact (if_pos rfl).symm)) $$ [Hc HO Hat]
  · isplitr; · iexact HR
    isplitl [Hc]; · iexact Hc
    isplitl [HO]; · iexact HO
    iexact Hat
  rw [dmaPay_local]
  unfold locPay
  iintro ⟨Hp, HO, Hs⟩
  iapply h
  isplitr; · iexact HR
  isplitl [HO]; · iexact HO
  isplitl [Hrd]; · iexact Hrd
  isplitl [Hg]; · iexact Hg
  isplitl [Hd]; · iexact Hd
  isplitl [Hz]; · iexact Hz
  isplitl [Hh]; · iexact Hh
  isplitl [H3]; · iexact H3
  isplitl [Hp]; · iexact Hp
  isplitl [Hs]; · iexact Hs
  iexact HQ

/-- The wait for the departure in place `e`. -/
theorem step_depart {α : Type} {Q : α → sProp 𝕄} {R : sProp 𝕄} {e : ℕ} (he : e < 64) {q : DmaSem sig} (hq : q = dmaS (sendSem (st e)))
    {sp sp' : Space} {s s' : Shape} {t t' : EltTy} {src : Memref sig .tc sp' s' t'} {dst : Memref sig .tc sp s t}
    {hsrc : src.view.WordExact} {hdst : dst.view.WordExact} (hamt : dst.view.dmaCredit = N)
    {k : PUnit → Prog (TpuEff nD τ sig (Elt F) Λ₀ .tc) α}
    (h : Dep m K c (e + 1) R ⊢ wp frame (wpE (defs₀ (F := F)) 𝒱₀ (c : Thread nD τ) none) Set.univ (k ⟨⟩) Q) :
    Dep m K c e R ⊢ wp frame (wpE (defs₀ (F := F)) 𝒱₀ (c : Thread nD τ) none) Set.univ (.op (.waitDma2 q src dst hsrc hdst) k) Q := by
  have hp := (place_st e he).2
  obtain ⟨hs, hs0, -⟩ := sendSem_facts (st e) hp
  unfold Dep at h ⊢
  rw [shrink (fun j => iprop(gone (F := F) c (st j) ∗ goneAt (F := F) c (st j))) he]
  rw [grow] at h
  iintro ⟨#HR, HO, ⟨⟨Hc, Hat⟩, Hd⟩, Hz, HQ⟩
  iapply (wp_arrive m K hs hs0 c (n := 64) hq (fun n' a b => absurd b (by omega))
    (hsrc := hsrc) (hdst := hdst) (by rw [hamt, amt_send hp])) $$ [Hc HO Hat]
  · isplitr; · iexact HR
    isplitl [Hc]; · rw [amt_send hp]; unfold gone; iexact Hc
    isplitl [HO]; · iexact HO
    unfold goneAt; iexact Hat
  rw [dmaPay_send m c hp]
  iintro ⟨Hp, HO, Hs⟩
  iapply h
  isplitr; · iexact HR
  isplitl [HO]; · iexact HO
  isplitl [Hd]; · iexact Hd
  isplitl [Hs Hp Hz]
  · isplitl [Hs Hp]
    · isplitl [Hs]; · unfold spentS; iexact Hs
      iexact Hp
    iexact Hz
  iexact HQ

/-! ## Loads and stores -/

/-- A load from the output. -/
theorem step_out {α : Type} {Q : α → sProp 𝕄} {R : sProp 𝕄} {n w : ℕ} {g : Buf (Elt F) (oL c)} {r : LoadRect S4096x1024} {hl : (oM : Memref sig .tc .vmem S4096x1024 .f32).view.LoadsAt r}
    {k : (r.shape.Idx → Elt F .f32) → Prog (TpuEff nD τ sig (Elt F) Λ₀ .tc) α}
    (h : St m K c n w iprop((oL c ↦{fullShare} g) ∗ R) ⊢ wp frame (wpE (defs₀ (F := F)) 𝒱₀ (c : Thread nD τ) none) Set.univ (k (oM.view.readAt (Elt F) r g)) Q) :
    St m K c n w iprop((oL c ↦{fullShare} g) ∗ R) ⊢ wp frame (wpE (defs₀ (F := F)) 𝒱₀ (c : Thread nD τ) none) Set.univ (.op (.load oM r hl) k) Q := by
  unfold St at h ⊢
  iintro ⟨#HR, HO, Hrd, Hg, Hd, Hz, Hh, H3, Ho, HQ⟩
  iapply (wp_load 𝒱₀ (c : Thread nD τ) none Set.univ (m := oM) (r := r) (hl := hl) (S := Finset.univ) (f := g) (Finset.subset_univ _)) $$ Ho
  iintro Ho
  iapply h
  isplitr; · iexact HR
  isplitl [HO]; · iexact HO
  isplitl [Hrd]; · iexact Hrd
  isplitl [Hg]; · iexact Hg
  isplitl [Hd]; · iexact Hd
  isplitl [Hz]; · iexact Hz
  isplitl [Hh]; · iexact Hh
  isplitl [H3]; · iexact H3
  isplitl [Ho]; · iexact Ho
  iexact HQ

/-- A load of band `b` from the landing buffer, once all its pieces have landed. -/
theorem step_in {α : Type} {Q : α → sProp 𝕄} {R : sProp 𝕄} {n w b : ℕ} (hb : b < 16) (hw : 49 + b ≤ w) {off : Fin 2 → ℕ} {inb : ∀ a, off a + S256x1024.size a ≤ S4096x1024.size a}
    (ho : off = ![256 * b, 0]) {hl : (fM : Memref sig .tc .vmem S4096x1024 .f32).view.LoadsAt (Rect.unit (s := S4096x1024) off S256x1024.size inb).toLoadRect}
    {k : ((Rect.unit (s := S4096x1024) off S256x1024.size inb).toLoadRect.shape.Idx → Elt F .f32) → Prog (TpuEff nD τ sig (Elt F) Λ₀ .tc) α}
    (h : St m K c n w iprop((oL c ↦{fullShare} summed m c b) ∗ R) ⊢ wp frame (wpE (defs₀ (F := F)) 𝒱₀ (c : Thread nD τ) none) Set.univ
      (k (fM.view.readAt (Elt F) (Rect.unit (s := S4096x1024) off S256x1024.size inb).toLoadRect (landed m c))) Q) :
    St m K c n w iprop((oL c ↦{fullShare} summed m c b) ∗ R) ⊢ wp frame (wpE (defs₀ (F := F)) 𝒱₀ (c : Thread nD τ) none) Set.univ
      (.op (.load fM (Rect.unit (s := S4096x1024) off S256x1024.size inb).toLoadRect hl) k) Q := by
  have hset : (fM.access (Rect.unit (s := S4096x1024) off S256x1024.size inb)).set = band b :=
    (View.set_slice_whole cc0_scratch0 (Rect.unit (s := S4096x1024) off S256x1024.size inb)).trans (band_rect ho)
  have hout := band_out (F := F) m c hb hw
  unfold St at h ⊢
  rw [hout] at h ⊢
  iintro ⟨#HR, HO, Hrd, Hg, Hd, Hz, Hh, ⟨Hb, H3⟩, HQ⟩
  iapply (wp_load_rect 𝒱₀ (c : Thread nD τ) none Set.univ (m := fM) (r := Rect.unit (s := S4096x1024) off S256x1024.size inb) (hl := hl)
    (S := band b) (q := s3) (f := landed m c) (by rw [hset])) $$ Hb
  iintro Hb
  iapply h
  isplitr; · iexact HR
  isplitl [HO]; · iexact HO
  isplitl [Hrd]; · iexact Hrd
  isplitl [Hg]; · iexact Hg
  isplitl [Hd]; · iexact Hd
  isplitl [Hz]; · iexact Hz
  isplitl [Hh]; · iexact Hh
  isplitl [Hb H3]
  · isplitl [Hb]; · iexact Hb
    iexact H3
  iexact HQ

/-- The store of the sum of band `b`. -/
theorem step_store {α : Type} {Q : α → sProp 𝕄} {R : sProp 𝕄} {n w b : ℕ} {off : Fin 2 → ℕ} {inb : ∀ a, off a + S256x1024.size a ≤ S4096x1024.size a}
    (ho : off = ![256 * b, 0]) {v : S256x1024.Idx → Elt F .f32}
    (hv : v = addf (φ := .f32) (oM.view.readAt (Elt F) (Rect.unit (s := S4096x1024) off S256x1024.size inb).toLoadRect (summed m c b))
      (fM.view.readAt (Elt F) (Rect.unit (s := S4096x1024) off S256x1024.size inb).toLoadRect (landed m c)))
    {hx : (oM.access (Rect.unit (s := S4096x1024) off S256x1024.size inb)).Stores Finset.univ} {hm}
    {k : PUnit → Prog (TpuEff nD τ sig (Elt F) Λ₀ .tc) α}
    (h : St m K c n w iprop((oL c ↦{fullShare} summed m c (b + 1)) ∗ R) ⊢ wp frame (wpE (defs₀ (F := F)) 𝒱₀ (c : Thread nD τ) none) Set.univ (k ⟨⟩) Q) :
    St m K c n w iprop((oL c ↦{fullShare} summed m c b) ∗ R) ⊢ wp frame (wpE (defs₀ (F := F)) 𝒱₀ (c : Thread nD τ) none) Set.univ
      (.op (.store oM (Rect.unit (s := S4096x1024) off S256x1024.size inb) v Finset.univ hx hm) k) Q := by
  unfold St at h ⊢
  iintro ⟨#HR, HO, Hrd, Hg, Hd, Hz, Hh, H3, Ho, HQ⟩
  iapply (wp_store 𝒱₀ (c : Thread nD τ) none Set.univ (m := oM) (r := Rect.unit (s := S4096x1024) off S256x1024.size inb) (w := v) (Mk := Finset.univ)
    (hx := hx) (hm := hm) (S := Finset.univ) (f := summed m c b) (Finset.subset_univ _)) $$ Ho
  iintro Ho
  iapply h
  isplitr; · iexact HR
  isplitl [HO]; · iexact HO
  isplitl [Hrd]; · iexact Hrd
  isplitl [Hg]; · iexact Hg
  isplitl [Hd]; · iexact Hd
  isplitl [Hz]; · iexact Hz
  isplitl [Hh]; · iexact Hh
  isplitl [H3]; · iexact H3
  isplitl [Ho]; · iapply (Entails.of_eq (congrArg (fun f => (oL c ↦{fullShare} f : sProp 𝕄)) (summed_step m c ho hv))); iexact Ho
  iexact HQ

end Cert.Scatter
-- ==== Proof.Ends.lean ====
/-
The two ends of a device's run.

At the start it hands its landing buffer out to its peers, meets them at the barrier and has room at each receiver.
At the end every piece is back and the buffer is whole again.
-/
module

public import proofs.«01_k».proof.Proof.Steps

@[expose] public section

set_option maxRecDepth 20000

noncomputable section

namespace Cert.Scatter

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 130 → ℕ) (c : Dev nD)

/-- What a device starts from. -/
def Begin : sProp 𝕄 :=
  iprop(records m K ∗ (∃ W, owes (c : Thread nD τ) (owedY c) W)
    ∗ (dutyTok ER (barCell (peer 0 c)) 0 (0 : Fin 3) ∗ dutyTok ER (barCell (peer 1 c)) 0 (1 : Fin 3) ∗ dutyTok ER (barCell (peer 2 c)) 0 (2 : Fin 3))
    ∗ (cred (tallyAt (barCell c) () 3) ∗ atPos ER (barCell c) 0 ∅ 0)
    ∗ (∃ f : Buf (Elt F) (fL c), fL c ↦{fullShare} f) ∗ (∃ f : Buf (Elt F) (oL c), oL c ↦{fullShare} f) ∗ (xL c ↦{fullShare} argOf m c)
    ∗ (dutyTok ER (dmaCell c 1) 0 (0 : Fin 3) ∗ atPos ER (dmaCell c 1) 0 ∅ 0)
    ∗ (bigSep (Finset.range 64) fun n => iprop(dutyTok ER (dmaCell c (sendSem n)) 0 (0 : Fin 3) ∗ dutyTok ER (dmaCell (other n c) (recvSem n)) 0 (0 : Fin 3)))
    ∗ bigSep (Finset.range 64) (due (F := F) c) ∗ bigSep (Finset.range 64) (goneAt (F := F) c))

/-- What is set aside while the copies run. -/
def Aside : sProp 𝕄 :=
  iprop((xL c ↦{fullShare.left} argOf m c) ∗ semVal (barCell c) 0 ∗ bigSep (Finset.range 64) (goneAt (F := F) c))

/-- What a device ends with. -/
def End : sProp 𝕄 :=
  iprop((∃ W, owes (c : Thread nD τ) 0 W) ∗ (fL c ↦{fullShare} landed m c) ∗ (oL c ↦{fullShare} summed m c 16)
    ∗ (xL c ↦{fullShare.left} argOf m c) ∗ semVal (barCell c) 0 ∗ semVal (dmaCell c 1) 0
    ∗ bigSep (Finset.range 64) (spent (F := F) c) ∗ bigSep (Finset.range 64) (spentS (F := F) c))

/-! ## The start -/

/-- A copy that goes in way `d` goes to the peer in way `d`. -/
theorem other_of_way {n : ℕ} {d : Fin 3} (h : way n = d) : other n c = peer d c := by subst h; rfl

/-- The landing buffer is the room this device has for its peers. -/
theorem rooms_out (f : Buf (Elt F) (fL c)) :
    (fL c ↦{fullShare} f : sProp 𝕄) ⊢ bigSep Finset.univ fun d : Fin 3 => barPay (F := F) (peer d c) d := by
  have hall : (fL c ↦{fullShare} f : sProp 𝕄)
      = bigSep (Finset.range 64) fun j => (fL c ↦[piece (row (wt j)) (colIn (wt j) c)]{fullShare} f : sProp 𝕄) := by
    have h : (fL c ↦[(Finset.range 64).biUnion fun j => piece (row (wt j)) (colIn (wt j) c)]{fullShare} f : sProp 𝕄)
        = bigSep (Finset.range 64) fun j => (fL c ↦[piece (row (wt j)) (colIn (wt j) c)]{fullShare} f : sProp 𝕄) :=
      pointsTo_biUnion (ℓ := fL c) (q := fullShare) (f := f) (Finset.range 64) (fun j => piece (row (wt j)) (colIn (wt j) c)) (places_disjoint c (Finset.Subset.refl _))
    rw [all_places] at h
    exact h
  have hroom : ∀ n, (fL c ↦[piece (row n) (colIn n c)]{fullShare} f : sProp 𝕄) ⊢ room (F := F) (other n c) n := by
    intro n
    unfold room colIn
    rw [other_other]
    iintro H; iexists f; iexact H
  have hper : (bigSep (Finset.range 64) fun n => (fL c ↦[piece (row n) (colIn n c)]{fullShare} f : sProp 𝕄))
      ⊢ bigSep (Finset.range 64) fun n => room (F := F) (other n c) n := bigSep_mono fun n _ => hroom n
  rw [hall, ← by_wt fun n => (fL c ↦[piece (row n) (colIn n c)]{fullShare} f : sProp 𝕄)]
  refine hper.trans (Entails.of_eq ?_)
  rw [by_way]
  refine bigSep_congr fun d _ => ?_
  unfold barPay
  exact bigSep_congr fun n hn => by rw [other_of_way c (Finset.mem_filter.mp hn).2]

/-- The local copy's start, the three signals and the wait at the barrier. -/
theorem begin_run {α : Type} {Q : α → sProp 𝕄} {q : DmaSem sig} (hq : q = dmaS 1)
    {offx : Fin 3 → ℕ} {inbx : ∀ a, offx a + S1x4096x1024.size a ≤ S1x4096x2048.size a} (hx : offx = ![0, 0, 1024 * yOf c])
    {hsrc : (xHalf offx inbx).view.WordExact} {hdst : oM.view.WordExact} {hsem : DmaTarget.Typed (nD := nD) (τ := τ) (p := .tc) .hbm (.dma q) (.here oM)}
    {p1 p2 p3 : Dev nD} (h1 : p1 = peer 0 c) (h2 : p2 = peer 1 c) (h3 : p3 = peer 2 c)
    {k : PUnit → Prog (TpuEff nD τ sig (Elt F) Λ₀ .tc) α}
    (h : St m K c 0 0 iprop((xL c ↦{fullShare.right.right} argOf m c) ∗ (cred (tallyAt (dmaCell c 1) () (amt 1)) ∗ atPos ER (dmaCell c 1) 0 ∅ 0) ∗ Aside m c)
      ⊢ wp frame (wpE (defs₀ (F := F)) 𝒱₀ (c : Thread nD τ) none) Set.univ (k ⟨⟩) Q) :
    Begin m K c ⊢ wp frame (wpE (defs₀ (F := F)) 𝒱₀ (c : Thread nD τ) none) Set.univ
      (.op (.enqueueDma (xHalf offx inbx) (.here oM) (.dma q) hsrc hdst hsem) fun _ =>
        Prog.bind (semSignalWord p1 barS 1#32) fun _ => Prog.bind (semSignalWord p2 barS 1#32) fun _ =>
          Prog.bind (semSignalWord p3 barS 1#32) fun _ => Prog.bind (semWaitWord barS 3#32) k) Q := by
  have hrooms : ∀ f : Buf (Elt F) (fL c), (fL c ↦{fullShare} f : sProp 𝕄)
      ⊢ iprop(barPay (F := F) (peer 0 c) 0 ∗ barPay (F := F) (peer 1 c) 1 ∗ barPay (F := F) (peer 2 c) 2) := fun f =>
    (rooms_out c f).trans (Entails.of_eq (by
      rw [bigSep_univ_eq_bigSepL [0, 1, 2] (by decide) (by decide)]; rfl))
  have hready : iprop(bigSep (Finset.range 64) (room (F := F) c)
      ∗ bigSep (Finset.range 64) fun n => iprop(dutyTok ER (dmaCell c (sendSem n)) 0 (0 : Fin 3) ∗ dutyTok ER (dmaCell (other n c) (recvSem n)) 0 (0 : Fin 3)))
      ⊢ bigSep (Finset.Ico 0 64) (ready (F := F) c) := by
    rw [← bigSep_sep', ← Finset.range_eq_Ico]; exact Entails.rfl
  have hdue : bigSep (Finset.range 64) (due (F := F) c) ⊢ bigSep (Finset.Ico 0 64) fun j => due (F := F) c (wt j) := by
    rw [by_wt (due (F := F) c), ← Finset.range_eq_Ico]
  unfold St Aside at h
  unfold Begin
  iintro ⟨#HR, ⟨%W, HO⟩, ⟨Ht1, Ht2, Ht3⟩, ⟨Hbc, Hba⟩, ⟨%f, Hf⟩, ⟨%g, Ho⟩, Hx, ⟨Hlt, Hla⟩, Htoks, Hdue, Hgat⟩
  ihave Hx := (pointsTo_share (PosShare.mem_left_op_right fullShare)).1 $$ Hx
  icases Hx with ⟨Hx0, Hx⟩
  ihave Hx := (pointsTo_share (PosShare.mem_left_op_right fullShare.right)).1 $$ Hx
  icases Hx with ⟨Hx1, Hx2⟩
  ihave Hf := (hrooms f) $$ Hf
  icases Hf with ⟨Hf1, Hf2, Hf3⟩
  iapply (wp_local m K c hq hx (hsrc := hsrc) (hdst := hdst) (hsem := hsem) g) $$ [Hx1 Ho Hlt]
  · isplitr; · iexact HR
    isplitl [Hx1]; · iexact Hx1
    isplitl [Ho]; · iexact Ho
    iexact Hlt
  iintro Hlc
  iapply (wp_greet m K c p1 0 h1 (owedX c) rfl) $$ [HO Ht1 Hf1]
  · isplitr; · iexact HR
    isplitl [HO]; · iexact HO
    isplitl [Ht1]; · iexact Ht1
    iexact Hf1
  iintro HO
  iapply (wp_greet m K c p2 1 h2 (owedZ c) rfl) $$ [HO Ht2 Hf2]
  · isplitr; · iexact HR
    isplitl [HO]; · iexact HO
    isplitl [Ht2]; · iexact Ht2
    iexact Hf2
  iintro HO
  iapply (wp_greet m K c p3 2 h3 (tail c 0) rfl) $$ [HO Ht3 Hf3]
  · isplitr; · iexact HR
    isplitl [HO]; · iexact HO
    isplitl [Ht3]; · iexact Ht3
    iexact Hf3
  iintro HO
  iapply (wp_met m K c) $$ [HO Hbc Hba]
  · isplitr; · iexact HR
    isplitl [Hbc]; · iexact Hbc
    isplitl [HO]; · iexact HO
    iexact Hba
  iintro ⟨Hroom, HO, Hb0⟩
  iapply h
  isplitr; · iexact HR
  isplitl [HO]; · iexact HO
  isplitl [Hroom Htoks]
  · iapply hready
    isplitl [Hroom]; · iexact Hroom
    iexact Htoks
  isplitr; · rw [Finset.range_zero, bigSep_empty]; iempintro
  isplitl [Hdue]; · iapply hdue; iexact Hdue
  isplitr; · rw [Finset.range_zero, bigSep_empty]; iempintro
  isplitr
  · unfold heldAll
    rw [Finset.range_zero, bigSep_empty, bigSep_empty]
    isplitr; · iempintro
    iempintro
  isplitr; · rw [Finset.range_zero, bigSep_empty]; iempintro
  isplitl [Hx2]; · iexact Hx2
  isplitl [Hlc Hla]
  · isplitl [Hlc]; · iexact Hlc
    iexact Hla
  isplitl [Hx0]; · iexact Hx0
  isplitl [Hb0]; · iexact Hb0
  iexact Hgat

/-! ## The end -/

/-- What is no longer needed may be dropped. -/
theorem St_drop {n w : ℕ} (A R : sProp 𝕄) : St m K c n w iprop(A ∗ R) ⊢ St m K c n w R := by
  unfold St
  iintro ⟨#HR, HO, Hrd, Hg, Hd, Hz, Hh, H3, -, HQ⟩
  isplitr; · iexact HR
  isplitl [HO]; · iexact HO
  isplitl [Hrd]; · iexact Hrd
  isplitl [Hg]; · iexact Hg
  isplitl [Hd]; · iexact Hd
  isplitl [Hz]; · iexact Hz
  isplitl [Hh]; · iexact Hh
  isplitl [H3]; · iexact H3
  iexact HQ

/-- What stays while the departures are waited for. -/
def Stay : sProp 𝕄 :=
  iprop(bigSep (Finset.range 64) (spent (F := F) c) ∗ heldAll m c 64 64 ∗ (bigSep (Finset.range 64) fun j => landing m c s3 (wt j))
    ∗ (oL c ↦{fullShare} summed m c 16) ∗ semVal (dmaCell c 1) 0 ∗ (xL c ↦{fullShare.left} argOf m c) ∗ semVal (barCell c) 0)

/-- When all copies are made and all landings are in, the departures are next. -/
theorem to_depart : St m K c 64 64 iprop((oL c ↦{fullShare} summed m c 16) ∗ semVal (dmaCell c 1) 0 ∗ Aside m c) ⊢ Dep m K c 0 (Stay m c) := by
  have hg : iprop(bigSep (Finset.range 64) (gone (F := F) c) ∗ bigSep (Finset.range 64) (goneAt (F := F) c))
      ⊢ bigSep (Finset.Ico 0 64) fun j => iprop(gone (F := F) c (st j) ∗ goneAt (F := F) c (st j)) := by
    rw [← bigSep_sep', by_st (fun n => iprop(gone (F := F) c n ∗ goneAt (F := F) c n)), ← Finset.range_eq_Ico]
  have hz : (bigSep (Finset.range 64) fun j => spent (F := F) c (wt j)) ⊢ bigSep (Finset.range 64) (spent (F := F) c) :=
    Entails.of_eq (by_wt (spent (F := F) c)).symm
  unfold St Dep Stay Aside
  iintro ⟨#HR, HO, -, Hg, -, Hz, Hh, H3, Ho, Hl, Hx, Hb, Hat⟩
  isplitr; · iexact HR
  isplitl [HO]; · iexact HO
  isplitl [Hg Hat]
  · iapply hg
    isplitl [Hg]; · iexact Hg
    iexact Hat
  isplitr; · rw [Finset.range_zero, bigSep_empty]; iempintro
  isplitl [Hz]; · iapply hz; iexact Hz
  isplitl [Hh]; · iexact Hh
  isplitl [H3]; · iexact H3
  isplitl [Ho]; · iexact Ho
  isplitl [Hl]; · iexact Hl
  isplitl [Hx]; · iexact Hx
  iexact Hb

/-- When all departures are in, the device is at its end. -/
theorem to_end : Dep m K c 64 (Stay m c) ⊢ End m c := by
  have hs : (bigSep (Finset.range 64) fun j => iprop(spentS (F := F) c (st j) ∗ sendPay m c (st j)))
      ⊢ iprop(bigSep (Finset.range 64) (spentS (F := F) c) ∗ bigSep (Finset.range 64) (sendPay m c)) := by
    rw [← bigSep_sep', ← by_st (fun n => iprop(spentS (F := F) c n ∗ sendPay m c n))]
  have hw := held_whole (F := F) m c
  unfold Dep Stay End owing
  rw [tail_end]
  iintro ⟨-, HO, -, Hs, Hz, Hh, H3, Ho, Hl, Hx, Hb⟩
  ihave Hs := hs $$ Hs
  icases Hs with ⟨Hs, Hp⟩
  isplitl [HO]; · iexact HO
  isplitl [Hh Hp H3]
  · iapply hw
    isplitl [Hh]; · iexact Hh
    isplitl [Hp]; · iexact Hp
    iexact H3
  isplitl [Ho]; · iexact Ho
  isplitl [Hx]; · iexact Hx
  isplitl [Hb]; · iexact Hb
  isplitl [Hl]; · iexact Hl
  isplitl [Hz]; · iexact Hz
  iexact Hs

end Cert.Scatter
-- ==== Proof.Body.lean ====
/-
The kernel's body, operation by operation.
-/
module

public import proofs.«01_k».proof.Proof.Ends
public import proofs.«01_k».proof.Proof.Gen.Kernel.Skeleton

@[expose] public section

set_option maxRecDepth 20000

noncomputable section

namespace Cert.Scatter

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 130 → ℕ) (c : Dev nD)

set_option maxHeartbeats 4000000 in
/-- From its start a device's body runs through to its end. -/
theorem body_run {Q : PUnit → sProp 𝕄} (h : End m c ⊢ Q ⟨⟩) :
    Begin m K c ⊢ wp frame (wpE (defs₀ (F := F)) 𝒱₀ (c : Thread nD τ) none) Set.univ
      (cc0_body (Memref.whole main_arg0) (Memref.isWhole_whole _) oM (Memref.isWhole_whole _) fM (Memref.isWhole_whole _)
        cc0_scratch1 cc0_scratch2 cc0_scratch3 cc0_scratch4 cc0_scratch5 cc0_scratch6 cc0_scratch7 cc0_scratch8 cc0_scratch9 cc0_scratch10 cc0_scratch11) Q := by
  simp only [cc0_body_eq_skeleton, cc0_body_skel, Prog.lift, Prog.bind_op, Prog.bind_ret, Prog.bind_assoc, Prog.pure_eq_ret, wp_deviceId,
    k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel, k0_part40_eq_skeleton, k0_part40_skel,
    k0_part41_eq_skeleton, k0_part41_skel, k0_part42_eq_skeleton, k0_part42_skel, k0_part43_eq_skeleton, k0_part43_skel, k0_part44_eq_skeleton, k0_part44_skel,
    k0_part45_eq_skeleton, k0_part45_skel, k0_part46_eq_skeleton, k0_part46_skel, k0_part47_eq_skeleton, k0_part47_skel, k0_part48_eq_skeleton, k0_part48_skel,
    k0_part49_eq_skeleton, k0_part49_skel, k0_part50_eq_skeleton, k0_part50_skel, k0_part51_eq_skeleton, k0_part51_skel, k0_part52_eq_skeleton, k0_part52_skel,
    k0_part53_eq_skeleton, k0_part53_skel, k0_part54_eq_skeleton, k0_part54_skel, k0_part55_eq_skeleton, k0_part55_skel, k0_part56_eq_skeleton, k0_part56_skel,
    k0_part57_eq_skeleton, k0_part57_skel, k0_part58_eq_skeleton, k0_part58_skel, k0_part59_eq_skeleton, k0_part59_skel, k0_part60_eq_skeleton, k0_part60_skel,
    k0_part61_eq_skeleton, k0_part61_skel, k0_part62_eq_skeleton, k0_part62_skel]
  refine begin_run m K c rfl (by clear * -; revert c; decide +kernel) (by clear * -; revert c; decide +kernel) (by clear * -; revert c; decide +kernel) (by clear * -; revert c; decide +kernel) ?_
  iterate 22
    refine step_first m K c (by decide) (by decide) (by clear * -; revert c; decide +kernel) rfl rfl (by clear * -; revert c; decide +kernel) (by clear * -; revert c; decide +kernel) ?_
  refine (St_drop m K c _ _).trans ?_
  iterate 16
    refine step_land m K c (by decide) (by rfl) (by decide +kernel) (by decide) (by decide) (by rfl) ?_
    refine step_pass m K c (by decide) (by decide) (by decide) (by decide) (by clear * -; revert c; decide +kernel) rfl rfl (by clear * -; revert c; decide +kernel) ?_
    refine step_pass m K c (by decide) (by decide) (by decide) (by decide) (by clear * -; revert c; decide +kernel) rfl rfl (by clear * -; revert c; decide +kernel) ?_
  iterate 14
    refine step_land m K c (by decide) (by rfl) (by decide +kernel) (by decide) (by decide) (by rfl) ?_
  refine step_pass m K c (by decide) (by decide) (by decide) (by decide) (by clear * -; revert c; decide +kernel) rfl rfl (by clear * -; revert c; decide +kernel) ?_
  iterate 9
    refine step_land m K c (by decide) (by rfl) (by decide +kernel) (by decide) (by decide) (by rfl) ?_
    refine step_land m K c (by decide) (by rfl) (by decide +kernel) (by decide) (by decide) (by rfl) ?_
    refine step_pass m K c (by decide) (by decide) (by decide) (by decide) (by clear * -; revert c; decide +kernel) rfl rfl (by clear * -; revert c; decide +kernel) ?_
  refine step_local m K c (by rfl) (by rfl) (by rfl) ?_
  iterate 16
    refine step_land m K c (by decide) (by rfl) (by decide +kernel) (by decide) (by decide) (by rfl) ?_
    refine step_out m K c ?_
    refine step_in m K c (by decide) (by decide) (by rfl) ?_
    refine step_out m K c ?_
    refine step_store m K c (by rfl) (congrArg (fun v => addf v _) (shapeCast_self _ _)) ?_
  refine (to_depart m K c).trans ?_
  iterate 64
    refine step_depart m K c (by decide) (by rfl) (by rfl) ?_
  exact (to_end m K c).trans (h.trans (le_wp_ret _ _ _ _ _))

end Cert.Scatter
-- ==== Proof.Deal.lean ====
/-
What the launch deals out.

Every cell of every device gets its invariant; the tokens of a cell's payments go to the devices that make them; and the
credit of the barrier and of the landings comes from what the devices owe at the start.
-/
module

public import proofs.«01_k».proof.Proof.Body
public import proofs.«01_k».proof.Proof.Gen.Kernel.Launch
public import Idealize.ShloMosaic.Lib.Pipeline.Launch
public import Idealize.ShloMosaic.Lib.Pipeline.Kit

@[expose] public section

set_option maxRecDepth 20000

noncomputable section

namespace Cert.Scatter

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells of a device, in their kinds -/

/-- Different copies have different departure semaphores, -/
theorem send_inj : Set.InjOn sendSem (Finset.range 64 : Finset ℕ) := fun a ha b hb e => by
  rw [← (sendSem_facts a (Finset.mem_range.mp ha)).2.2.2.2, e, (sendSem_facts b (Finset.mem_range.mp hb)).2.2.2.2]
/-- and different landing semaphores. -/
theorem recv_inj : Set.InjOn recvSem (Finset.range 64 : Finset ℕ) := fun a ha b hb e => by
  rw [← (recvSem_facts a (Finset.mem_range.mp ha)).2.2.2, e, (recvSem_facts b (Finset.mem_range.mp hb)).2.2.2]

/-- Semaphores 1 to 129 are the local copy's, those of the departures and those of the landings. -/
theorem kinds_sum : (Finset.range 129).map ⟨Nat.succ, Nat.succ_injective⟩
    = insert 1 ((Finset.range 64).image sendSem ∪ (Finset.range 64).image recvSem) := by decide +kernel
/-- The local copy's is none of the others, -/
theorem one_apart : 1 ∉ (Finset.range 64).image sendSem ∪ (Finset.range 64).image recvSem := by decide +kernel
/-- and no semaphore is both a departure's and a landing's. -/
theorem kinds_apart : Disjoint ((Finset.range 64).image sendSem) ((Finset.range 64).image recvSem) := by decide +kernel

/-- The DMA cells but the staging one: the local copy's, those of the 64 departures, those of the 64 landings. -/
theorem by_kind (Φ : ℕ → sProp 𝕄) : bigSep (Finset.univ : Finset (Fin 129)) (fun i => Φ (i.val + 1))
    = iprop(Φ 1 ∗ bigSep (Finset.range 64) (fun n => Φ (sendSem n)) ∗ bigSep (Finset.range 64) fun n => Φ (recvSem n)) := by
  have h : (Finset.univ : Finset (Fin 129)).map ⟨fun i => i.val + 1, fun a b e => Fin.ext (Nat.succ_injective e)⟩
      = (Finset.range 129).map ⟨Nat.succ, Nat.succ_injective⟩ := by decide +kernel
  have h2 := bigSep_map (s := (Finset.univ : Finset (Fin 129))) ⟨fun i => i.val + 1, fun a b e => Fin.ext (Nat.succ_injective e)⟩ (Φ := Φ)
  rw [h, kinds_sum, bigSep_insert one_apart, bigSep_union kinds_apart, bigSep_image_of_injOn send_inj, bigSep_image_of_injOn recv_inj] at h2
  exact h2.symm

/-- All cells of a device: the barrier first. -/
theorem by_cell (c : Dev nD) (Φ : GSem nD τ sig → sProp 𝕄) : bigSep (Finset.univ : Finset (Fin 130)) (fun k => Φ (kcell (c, k)))
    = iprop(Φ (barCell c) ∗ bigSep (Finset.univ : Finset (Fin 129)) fun i => Φ (dmaCell c (i.val + 1))) := by
  rw [Fin.univ_succ, Finset.cons_eq_insert, bigSep_insert (by simp [Fin.succ_ne_zero]), bigSep_map]
  rfl

/-- All cells of a device, in their kinds. -/
theorem by_cell_kind (c : Dev nD) (Φ : GSem nD τ sig → sProp 𝕄) : bigSep (Finset.univ : Finset (Fin 130)) (fun k => Φ (kcell (c, k)))
    = iprop(Φ (barCell c) ∗ Φ (dmaCell c 1) ∗ bigSep (Finset.range 64) (fun n => Φ (dmaCell c (sendSem n)))
        ∗ bigSep (Finset.range 64) fun n => Φ (dmaCell c (recvSem n))) := by
  rw [by_cell, by_kind fun i => Φ (dmaCell c i)]

/-- The kernel's own semaphores: all DMA semaphores but the staging one. -/
abbrev osem : Fin 129 → SemLoc sig := fun i => .dma (dmaS (i.val + 1))

/-- Different numbers name different DMA semaphores. -/
theorem dmaS_inj {i j : ℕ} (hi : i < 130) (hj : j < 130) (h : (SemLoc.dma (dmaS i) : SemLoc sig) = .dma (dmaS j)) : i = j := by
  have h2 : (ix i : Fin 130) = ix j := SemLoc.dma.inj h
  have h3 := congrArg Fin.val h2
  rwa [ix_val hi, ix_val hj] at h3

/-- The kernel's own semaphores are scoped, all different, and none is the launch's. -/
theorem ownSemFacts : Pipeline.OwnSemFacts cfg0.spec osem where
  isScoped := by decide +kernel
  inj a b h := Fin.ext (Nat.succ_injective (dmaS_inj (by omega) (by omega) h))
  disj := by decide +kernel

/-- Different devices and numbers name different cells. -/
theorem kcell_injective : Function.Injective (kcell : Dev nD × Fin 130 → GSem nD τ sig) := by
  rintro ⟨c, k⟩ ⟨c', k'⟩ h
  have h1 : c = c' := congrArg (fun g : GSem nD τ sig => g.1.1) h
  subst h1
  have h2 : csem k.val = csem k'.val := congrArg Prod.snd h
  unfold csem at h2
  by_cases e : k.val = 0 <;> by_cases e' : k'.val = 0
  · exact Prod.ext rfl (Fin.ext (e.trans e'.symm))
  · rw [if_pos e, if_neg e'] at h2; cases h2
  · rw [if_neg e, if_pos e'] at h2; cases h2
  · rw [if_neg e, if_neg e'] at h2
    exact Prod.ext rfl (Fin.ext (dmaS_inj k.isLt k'.isLt h2))

/-- The cells of all devices. -/
def allCells : Finset (GSem nD τ sig) := Finset.univ.map ⟨kcell, kcell_injective⟩

/-- Three tokens for every cell (a DMA cell uses the first alone). -/
abbrev tokOf (x : (Dev nD × Fin 130) × Fin 3) : GSem nD τ sig × ℕ × Fin 3 := (kcell x.1, 0, x.2)
/-- No two tokens are the same. -/
theorem tokOf_injective : Function.Injective tokOf := fun x y h =>
  Prod.ext (kcell_injective (congrArg Prod.fst h)) (congrArg (fun z : GSem nD τ sig × ℕ × Fin 3 => z.2.2) h)
/-- The tokens of all cells. -/
def allToks : Finset (GSem nD τ sig × ℕ × Fin 3) := Finset.univ.map ⟨tokOf, tokOf_injective⟩

/-- The ghost state that the launch starts from: its own part and the transfers'. -/
def u₀ : UU := (initOf (Pipeline.cells cfgs cellOf_inj) (Pipeline.launchToks cfgs cellOf_inj), initOf allCells allToks)

variable (m : (ℓ : Loc nD τ sig) → Buf (Elt F) ℓ)

/-- The tokens of the cells of one device. -/
def toks (c : Dev nD) : sProp 𝕄 :=
  bigSep (Finset.univ : Finset (Fin 130)) fun k => bigSep (Finset.univ : Finset (Fin 3)) fun d => dutyTok ER (kcell (c, k)) 0 d

/-- What the launch gives a device at first: its cells' states, positions and tokens. -/
def G (c : Dev nD) : sProp 𝕄 :=
  iprop((bigSep (Finset.univ : Finset (Fin 130)) fun k => roundState ER (Rd m) (kcell (c, k)) 0)
    ∗ (bigSep (Finset.univ : Finset (Fin 130)) fun k => iprop(atPos ER (kcell (c, k)) 0 ∅ 0 ∗ reached ER (kcell (c, k)) 0)) ∗ toks c)

/-- From the transfers' part every device gets its cells' states, positions and tokens. -/
theorem fund_all : BI.own (ER (initOf allCells allToks)) ⊢ (|==> bigSep Finset.univ (G (F := F) m) : sProp 𝕄) := by
  have hX (Φ : GSem nD τ sig → sProp 𝕄) : bigSep allCells Φ = bigSep Finset.univ fun c : Dev nD => bigSep Finset.univ fun k : Fin 130 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The one semaphore that outlives the launch is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- All cells of a device at zero, from the own semaphores and the barrier. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 130 => semVal (kcell (c, k)) 0 : sProp 𝕄) := by
  rw [by_cell c fun g => semVal g 0, unscopedSems0_eq]
  unfold Pipeline.ownSems0
  iintro ⟨HS, HB⟩
  isplitl [HB]; · iexact HB
  iexact HS

/-- The own semaphores at zero, from each kind at zero. -/
theorem ownSems0_of (c : Dev nD) :
    iprop(semVal (dmaCell c 1) 0 ∗ bigSep (Finset.range 64) (spent (F := F) c) ∗ bigSep (Finset.range 64) (spentS (F := F) c))
      ⊢ Pipeline.ownSems0 (Ix := Unit) (Name := ℕ) (U := UU) (Lvl := ℕ) (Val := Elt F) (τ := τ) osem c := by
  unfold Pipeline.ownSems0
  have h := by_kind (F := F) fun i => semVal (dmaCell c i) 0
  rw [h]
  unfold spent spentS
  iintro ⟨H1, HR, HS⟩
  isplitl [H1]; · iexact H1
  isplitl [HS]; · iexact HS
  iexact HR

/-! ## Every cell gets its invariant -/

/-- A device's cells, at zero and in their first state, get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 130 => iprop(∃ κ : ℕ, cellInv ER (Rd m) κ (kcell (c, k))))
          ∗ (bigSep Finset.univ fun k : Fin 130 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 130 => semVal (kcell (c, k)) 0) ∗ bigSep Finset.univ fun k : Fin 130 => roundState ER (Rd m) (kcell (c, k)) 0)
      ⊢ (|={Set.univ}=> bigSep Finset.univ fun k : Fin 130 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to those who pay -/

/-- The tokens a device pays with. -/
def pays (c : Dev nD) : sProp 𝕄 :=
  iprop((dutyTok ER (barCell (peer 0 c)) 0 (0 : Fin 3) ∗ dutyTok ER (barCell (peer 1 c)) 0 (1 : Fin 3) ∗ dutyTok ER (barCell (peer 2 c)) 0 (2 : Fin 3))
    ∗ dutyTok ER (dmaCell c 1) 0 (0 : Fin 3)
    ∗ (bigSep (Finset.range 64) fun n => iprop(dutyTok ER (dmaCell c (sendSem n)) 0 (0 : Fin 3)))
    ∗ bigSep (Finset.range 64) fun n => iprop(dutyTok ER (dmaCell (other n c) (recvSem n)) 0 (0 : Fin 3)))

/-- The tokens a device's own cells use. -/
def used (c : Dev nD) : sProp 𝕄 :=
  iprop((dutyTok ER (barCell c) 0 (0 : Fin 3) ∗ dutyTok ER (barCell c) 0 (1 : Fin 3) ∗ dutyTok ER (barCell c) 0 (2 : Fin 3))
    ∗ dutyTok ER (dmaCell c 1) 0 (0 : Fin 3)
    ∗ (bigSep (Finset.range 64) fun n => iprop(dutyTok ER (dmaCell c (sendSem n)) 0 (0 : Fin 3)))
    ∗ bigSep (Finset.range 64) fun n => iprop(dutyTok ER (dmaCell c (recvSem n)) 0 (0 : Fin 3)))

/-- Of a device's tokens those that its cells use. -/
theorem toks_used (c : Dev nD) : toks c ⊢ (used c : sProp 𝕄) := by
  have h0 (g : GSem nD τ sig) : (bigSep (Finset.univ : Finset (Fin 3)) fun d => (dutyTok ER g 0 d : sProp 𝕄)) ⊢ dutyTok ER g 0 (0 : Fin 3) :=
    bigSep_elim (Finset.mem_univ 0)
  have hb : (bigSep (Finset.univ : Finset (Fin 3)) fun d => (dutyTok ER (barCell c) 0 d : sProp 𝕄))
      ⊢ iprop(dutyTok ER (barCell c) 0 (0 : Fin 3) ∗ dutyTok ER (barCell c) 0 (1 : Fin 3) ∗ dutyTok ER (barCell c) 0 (2 : Fin 3)) :=
    Entails.of_eq (by rw [bigSep_univ_eq_bigSepL [0, 1, 2] (by decide) (by decide)]; rfl)
  have hm (f : ℕ → ℕ) : (bigSep (Finset.range 64) fun n => bigSep (Finset.univ : Finset (Fin 3)) fun d => (dutyTok ER (dmaCell c (f n)) 0 d : sProp 𝕄))
      ⊢ bigSep (Finset.range 64) fun n => dutyTok ER (dmaCell c (f n)) 0 (0 : Fin 3) := bigSep_mono fun n _ => h0 _
  unfold toks used
  rw [by_cell_kind c fun g => bigSep (Finset.univ : Finset (Fin 3)) fun d => dutyTok ER g 0 d]
  iintro ⟨HB, H1, HS, HR⟩
  isplitl [HB]; · iapply hb; iexact HB
  isplitl [H1]; · iapply (h0 _); iexact H1
  isplitl [HS]; · iapply (hm sendSem); iexact HS
  iapply (hm recvSem); iexact HR

/-- The exchange of each device with its peer in way `d`, -/
def peers (d : Fin 3) : Dev nD ≃ Dev nD := ⟨peer d, peer d, peer_peer d, peer_peer d⟩
/-- and with its partner in copy `n`. -/
def others (n : ℕ) : Dev nD ≃ Dev nD := ⟨other n, other n, other_other n, other_other n⟩

/-- What is owned for every device and every copy is owned for every copy and every device. -/
theorem copies_first (S : Finset ℕ) (Φ : Dev nD → ℕ → sProp 𝕄) :
    (bigSep Finset.univ fun c => bigSep S (Φ c)) = bigSep S fun n => bigSep Finset.univ fun c => Φ c n := by
  induction S using Finset.induction_on with
  | empty => simp only [bigSep_empty]; exact bigSep_emp_const _
  | insert a S ha ih =>
    simp only [bigSep_insert ha]
    exact (bigSep_sep' Finset.univ (fun c => Φ c a) fun c => bigSep S (Φ c)).trans (by rw [ih]; rfl)

/-- All tokens change hands: a barrier's to the peers, a landing's to the sender. -/
theorem toks_around : (bigSep Finset.univ fun c : Dev nD => (toks c : sProp 𝕄)) ⊢ bigSep Finset.univ fun c : Dev nD => pays c := by
  have h1 : (bigSep Finset.univ fun c : Dev nD => (toks c : sProp 𝕄)) ⊢ bigSep Finset.univ fun c : Dev nD => used c :=
    bigSep_mono fun c _ => toks_used c
  have hr : (bigSep Finset.univ fun c : Dev nD => bigSep (Finset.range 64) fun n => (dutyTok ER (dmaCell c (recvSem n)) 0 (0 : Fin 3) : sProp 𝕄))
      = bigSep Finset.univ fun c : Dev nD => bigSep (Finset.range 64) fun n => dutyTok ER (dmaCell (other n c) (recvSem n)) 0 (0 : Fin 3) := by
    rw [copies_first, copies_first]
    exact bigSep_congr fun n _ => bigSep_univ_equiv (others n) fun c => dutyTok ER (dmaCell c (recvSem n)) 0 (0 : Fin 3)
  refine h1.trans (Entails.of_eq ?_)
  unfold used pays
  rw [bigSep_sep', bigSep_sep', bigSep_sep', bigSep_sep', bigSep_sep', bigSep_sep', bigSep_sep', bigSep_sep', bigSep_sep', bigSep_sep', hr,
    bigSep_univ_equiv (peers 0) (fun c : Dev nD => (dutyTok ER (barCell c) 0 (0 : Fin 3) : sProp 𝕄)),
    bigSep_univ_equiv (peers 1) (fun c : Dev nD => (dutyTok ER (barCell c) 0 (1 : Fin 3) : sProp 𝕄)),
    bigSep_univ_equiv (peers 2) (fun c : Dev nD => (dutyTok ER (barCell c) 0 (2 : Fin 3) : sProp 𝕄))]
  rfl

/-- The invariants and marks of all cells. -/
def known (K : Dev nD × Fin 130 → ℕ) : sProp 𝕄 :=
  iprop((bigSep Finset.univ fun ck : Dev nD × Fin 130 => cellInv ER (Rd m) (K ck) (kcell ck))
    ∗ bigSep Finset.univ fun ck : Dev nD × Fin 130 => reached ER (kcell ck) 0)

/-- They may be used again and again. -/
instance known_persistent (K : Dev nD × Fin 130 → ℕ) : BI.Persistent (known (F := F) m K) := by unfold known; infer_instance

/-- What stays with a device: its positions, and the tokens it pays with. -/
def mine (c : Dev nD) : sProp 𝕄 :=
  iprop((bigSep Finset.univ fun k : Fin 130 => atPos ER (kcell (c, k)) 0 ∅ 0) ∗ pays c)

/-- What a device has after the exchange. -/
def G' (c : Dev nD) : sProp 𝕄 := iprop(∃ K, known m K ∗ mine c)

/-- From what every device has of its own cells, everyone learns of all cells, and the tokens go to the payers. -/
theorem regroup :
    (bigSep Finset.univ fun c : Dev nD => iprop((bigSep Finset.univ fun k : Fin 130 => iprop(∃ κ : ℕ, cellInv ER (Rd m) κ (kcell (c, k))))
          ∗ (bigSep Finset.univ fun k : Fin 130 => iprop(atPos ER (kcell (c, k)) 0 ∅ 0 ∗ reached ER (kcell (c, k)) 0)) ∗ toks c) : sProp 𝕄)
      ⊢ bigSep Finset.univ (G' (F := F) m) := by
  rw [bigSep_sep', bigSep_sep', ← bigSep_univ_prod (fun ck : Dev nD × Fin 130 => iprop(∃ κ : ℕ, cellInv ER (Rd m) κ (kcell ck))),
    bigSep_congr (s := Finset.univ) (fun (c : Dev nD) _ => bigSep_sep' Finset.univ (fun k : Fin 130 => (atPos ER (kcell (c, k)) 0 ∅ 0 : sProp 𝕄)) (fun k => reached ER (kcell (c, k)) 0)),
    bigSep_sep', ← bigSep_univ_prod (fun ck : Dev nD × Fin 130 => (reached ER (kcell ck) 0 : sProp 𝕄))]
  iintro ⟨HI, ⟨Hat, #HR⟩, Htok⟩
  ihave HK := (BI.bigSep_exists_pi Finset.univ (fun (ck : Dev nD × Fin 130) (κ : ℕ) => (cellInv ER (Rd m) κ (kcell ck) : sProp 𝕄))) $$ HI
  icases HK with ⟨%K, #HI⟩
  ihave Htk := (toks_around (F := F)) $$ Htok
  have hk : ∀ c ∈ (Finset.univ : Finset (Dev nD)), iprop(known m K ∗ mine c) ⊢ G' m c := fun c _ => by
    unfold G'; iintro H; iexists K; iexact H
  iapply (BI.bigSep_with_persistent (R := known m K) hk)
  isplitr
  · unfold known; isplitl; · iexact HI
    iexact HR
  · unfold mine
    iapply (Entails.of_eq (bigSep_sep' Finset.univ (fun c : Dev nD => bigSep Finset.univ fun k : Fin 130 => (atPos ER (kcell (c, k)) 0 ∅ 0 : sProp 𝕄)) pays).symm)
    isplitl [Hat]; · iexact Hat
    iexact Htk

/-- The step all devices take together: every cell its invariant, every token to its payer. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The credit at the start -/

/-- Equal cells are of the same device. -/
theorem cell_dev {a b : Dev nD} {s s' : SemLoc sig} (h : ((a : Thread nD τ), s) = ((b : Thread nD τ), s')) : a = b :=
  congrArg (fun g : GSem nD τ sig => g.1.1) h

/-- What a device owes a cell for its copies: the credit of each copy that lands there. -/
theorem tail_at (d : Dev nD) (g : GSem nD τ sig) : tail d 0 g () = ∑ n ∈ Finset.range 64, if g = dmaCell (other n d) (recvSem n) then N else 0 := by
  unfold tail
  rw [Finset.sum_apply, Finsupp.finset_sum_apply, ← Finset.range_eq_Ico]
  refine Finset.sum_congr rfl fun n _ => ?_
  rw [tallyAt_apply]
  exact if_congr (by simp) rfl rfl

/-- A device owes each of its peers' barriers one unit, -/
theorem owed_bar (d c : Dev nD) : owedY d (barCell c) () = (if d = peerZ c then 1 else 0) + (if d = peerX c then 1 else 0) + if d = peerY c then 1 else 0 := by
  have hp (w : Fin 3) : (if barCell c = barCell (peer w d) ∧ () = () then 1 else 0) = if d = peer w c then 1 else 0 := by
    refine if_congr ⟨fun h => ?_, fun h => ?_⟩ rfl rfl
    · rw [cell_dev h.1, peer_peer]
    · rw [h, peer_peer]; exact ⟨rfl, rfl⟩
  unfold owedY owedX owedZ
  rw [Pi.add_apply, Finsupp.add_apply, Pi.add_apply, Finsupp.add_apply, Pi.add_apply, Finsupp.add_apply, tallyAt_apply, tallyAt_apply, tallyAt_apply, tail_at,
    Finset.sum_eq_zero fun n _ => if_neg fun h => by cases h]
  have h0 := hp 0; have h1 := hp 1; have h2 := hp 2
  rw [Nat.zero_add]
  exact congrArg₂ (· + ·) (congrArg₂ (· + ·) h2 h1) h0

/-- and the receiver of its copy `n` that landing. -/
theorem owed_recv {n : ℕ} (hn : n < 64) (d c : Dev nD) : owedY d (dmaCell c (recvSem n)) () = if d = other n c then N else 0 := by
  have hb (p : Dev nD) : (if dmaCell c (recvSem n) = barCell p ∧ () = () then 1 else 0) = 0 := if_neg fun h => by cases h.1
  unfold owedY owedX owedZ
  rw [Pi.add_apply, Finsupp.add_apply, Pi.add_apply, Finsupp.add_apply, Pi.add_apply, Finsupp.add_apply, tallyAt_apply, tallyAt_apply, tallyAt_apply, tail_at,
    hb, hb, hb, Nat.add_zero, Finset.sum_eq_single n]
  · refine if_congr ⟨fun h => ?_, fun h => ?_⟩ rfl rfl
    · rw [cell_dev h, other_other]
    · rw [h, other_other]
  · intro k hk hne
    refine if_neg fun h => hne ?_
    rw [Finset.mem_range] at hk
    exact (recv_inj (Finset.mem_coe.mpr (Finset.mem_range.mpr hn)) (Finset.mem_coe.mpr (Finset.mem_range.mpr hk))
      (dmaS_inj (recvSem_facts n hn).1 (recvSem_facts k hk).1 (congrArg Prod.snd h))).symm
  · intro h; exact absurd (Finset.mem_range.mpr hn) h

/-- All devices together owe a barrier three units, -/
theorem launch_bar (c : Dev nD) :
    tallyOn (barCell c) (launchCredit (Pipeline.owing owedY) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peerZ c) fun _ => 1, Finset.sum_ite_eq' Finset.univ (peerX c) fun _ => 1, Finset.sum_ite_eq' Finset.univ (peerY c) fun _ => 1,
    if_pos (Finset.mem_univ _), if_pos (Finset.mem_univ _), if_pos (Finset.mem_univ _)]

/-- and a landing's semaphore the credit of one copy. -/
theorem launch_recv {n : ℕ} (hn : n < 64) (c : Dev nD) :
    tallyOn (dmaCell c (recvSem n)) (launchCredit (Pipeline.owing owedY) 0 (dmaCell c (recvSem n)))
      = (tallyAt (dmaCell c (recvSem n)) () N : CellTallies nD τ sig Unit) := by
  unfold tallyAt; refine congrArg _ (Finsupp.ext fun u => ?_); cases u
  rw [Pipeline.launchCredit_owing, Finsupp.single_eq_same, Finset.sum_congr rfl fun d _ => owed_recv hn d c, Finset.sum_ite_eq' Finset.univ (other n c) fun _ => N,
    if_pos (Finset.mem_univ _)]

/-- A device starts with the credit of its barrier and of its 64 landings. -/
theorem creds (c : Dev nD) :
    (Pipeline.launchCred owedY c : sProp 𝕄)
      ⊢ iprop(cred (tallyAt (barCell c) () 3) ∗ bigSep (Finset.range 64) fun n => cred (tallyAt (dmaCell c (recvSem n)) () N)) := by
  have hsub : (Finset.range 64).image (fun n => (SemLoc.dma (dmaS (recvSem n)) : SemLoc sig)) ⊆ Finset.univ.erase (SemLoc.reg barS) := by
    intro s hs
    obtain ⟨n, -, rfl⟩ := Finset.mem_image.mp hs
    exact Finset.mem_erase.mpr ⟨fun h => (by cases h), Finset.mem_univ _⟩
  have hinj : Set.InjOn (fun n => (SemLoc.dma (dmaS (recvSem n)) : SemLoc sig)) (Finset.range 64 : Finset ℕ) := fun a ha b hb e =>
    recv_inj ha hb (dmaS_inj (recvSem_facts a (Finset.mem_range.mp ha)).1 (recvSem_facts b (Finset.mem_range.mp hb)).1 e)
  have hrest : (bigSep (Finset.univ.erase (SemLoc.reg barS)) fun sm : SemLoc sig =>
        (cred (tallyOn ((c : Thread nD τ), sm) (launchCredit (Pipeline.owing owedY) 0 ((c : Thread nD τ), sm))) : sProp 𝕄))
      ⊢ bigSep ((Finset.range 64).image fun n => (SemLoc.dma (dmaS (recvSem n)) : SemLoc sig)) fun sm : SemLoc sig =>
        (cred (tallyOn ((c : Thread nD τ), sm) (launchCredit (Pipeline.owing owedY) 0 ((c : Thread nD τ), sm))) : sProp 𝕄) := bigSep_subset hsub
  unfold Pipeline.launchCred
  rw [bigSep_univ_at _ (SemLoc.reg barS), launch_bar]
  refine sep_mono_right (hrest.trans (Entails.of_eq ?_))
  rw [bigSep_image_of_injOn hinj]
  exact bigSep_congr fun n hn => by rw [launch_recv (Finset.mem_range.mp hn)]

end Cert.Scatter
-- ==== Proof.Launch.lean ====
/-
The run of the whole program.

Each device's run is put into the launch: what it starts from, what it ends with, and what of that can be read off the
final memory.
-/
module

public import proofs.«01_k».proof.Proof.Deal
public import proofs.«01_k».proof.Proof.Gen.Kernel.Points
public import Idealize.ShloMosaic.Lib.Pipeline.CollectiveSegs
public import Idealize.ShloMosaic.Lib.Pipeline.Value

@[expose] public section

set_option maxRecDepth 20000

noncomputable section

namespace Cert.Scatter

open Cert.Kernel Cert.Kernel.Gen
open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at the start: any contents, every semaphore at zero. -/
def s₀ : MemSt nD τ sig (Elt F) := ⟨m, fun _ => 0, ρ⟩

/-- What a device has when the program starts. -/
def start (c : Dev nD) : sProp 𝕄 :=
  iprop(G' m c ∗ (cred (tallyAt (barCell c) () 3) ∗ bigSep (Finset.range 64) fun n => cred (tallyAt (dmaCell c (recvSem n)) () N))
    ∗ levAts L lv ∗ (xL c ↦{fullShare} argOf m c))

/-- Before the body: that, and the landing buffer. -/
def Φ₀ (c : Dev nD) : sProp 𝕄 := iprop(start m c ∗ ∃ f : Buf (Elt F) (fL c), fL c ↦{fullShare} f)
/-- After the body: the landing buffer, half a share of the input, and every cell closed. -/
def Φ₁ (c : Dev nD) : sProp 𝕄 :=
  iprop((fL c ↦{fullShare} landed m c) ∗ (xL c ↦{fullShare.left} argOf m c) ∗ semVal (barCell c) 0 ∗ semVal (dmaCell c 1) 0
    ∗ bigSep (Finset.range 64) (spent (F := F) c) ∗ bigSep (Finset.range 64) (spentS (F := F) c))

/-- What the launch is told of a device: the contents before and after, what the body starts and ends with, what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => summed m c 16
  Φ t := match t with
    | ⟨0, _⟩ => Φ₀ m c
    | ⟨_ + 1, _⟩ => Φ₁ m c
  q _ := fullShare
  owed t := match t with
    | ⟨0, _⟩ => owedY c
    | ⟨_ + 1, _⟩ => 0

/-- Owning a whole buffer with given contents, spelled out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body, as the launch asks for it -/

/-- The output's buffer holding `X`. -/
abbrev stg (c : Dev nD) (X : S4096x1024.Idx → Elt F .f32) : sProp 𝕄 := iprop(∃ f : Buf (Elt F) (oL c), ⌜f = X⌝ ∗ (oL c ↦{fullShare} f))

/-- What the body starts from, -/
def bodyPre (c : Dev nD) : sProp 𝕄 :=
  iprop(Φ₀ m c ∗ (dats m ρ 0 c).owesAt () t0_0.castSucc ∗ (∃ d, stg c ((dats m ρ 0 c).before (0 : Fin 1) t0_0 d)))
/-- and what it ends with. -/
def bodyPost (c : Dev nD) : sProp 𝕄 :=
  iprop(Φ₁ m c ∗ (dats m ρ 0 c).owesAt () t0_0.succ ∗ stg c (summed m c 16))

/-- What the launch gives makes a beginning. -/
theorem begin_of (c : Dev nD) : bodyPre m ρ c ⊢ ∃ K, Begin m K c := by
  have hd : iprop((bigSep (Finset.range 64) fun n => cred (tallyAt (dmaCell c (recvSem n)) () N)) ∗ bigSep (Finset.range 64) fun n => atPos ER (dmaCell c (recvSem n)) 0 ∅ 0)
      ⊢ bigSep (Finset.range 64) (due (F := F) c) := Entails.of_eq (bigSep_sep' _ _ _).symm
  have hg : (bigSep (Finset.range 64) fun n => (atPos ER (dmaCell c (sendSem n)) 0 ∅ 0 : sProp 𝕄)) ⊢ bigSep (Finset.range 64) (goneAt (F := F) c) := Entails.refl _
  have ht : iprop((bigSep (Finset.range 64) fun n => iprop(dutyTok ER (dmaCell c (sendSem n)) 0 (0 : Fin 3)))
      ∗ bigSep (Finset.range 64) fun n => iprop(dutyTok ER (dmaCell (other n c) (recvSem n)) 0 (0 : Fin 3)))
      ⊢ (bigSep (Finset.range 64) fun n => iprop(dutyTok ER (dmaCell c (sendSem n)) 0 (0 : Fin 3) ∗ dutyTok ER (dmaCell (other n c) (recvSem n)) 0 (0 : Fin 3)) : sProp 𝕄) :=
    Entails.of_eq (bigSep_sep' _ _ _).symm
  have ha := by_cell_kind (F := F) c fun g => atPos ER g 0 ∅ 0
  unfold bodyPre Φ₀ start G' known mine pays Dat.owesAt Pipeline.owesWithin
  rw [ha, show (dats m ρ 0 c).owed t0_0.castSucc = owedY c from rfl]
  iintro ⟨⟨⟨⟨%K, ⟨HI, HR⟩, ⟨HaB, Ha1, HaS, HaR⟩, HtB, Ht1, HtS, HtR⟩, ⟨HcB, HcR⟩, Hlev, Hx⟩, Hf⟩, ⟨%W, %hW, HO⟩, ⟨%d, %f, %hf, Ho⟩⟩
  iexists K
  unfold Begin records
  isplitl [HI HR Hlev]
  · isplitl [HI]; · iexact HI
    isplitl [HR]; · iexact HR
    iexact Hlev
  isplitl [HO]; · iexists W; iexact HO
  isplitl [HtB]; · iexact HtB
  isplitl [HcB HaB]
  · isplitl [HcB]; · iexact HcB
    iexact HaB
  isplitl [Hf]; · iexact Hf
  isplitl [Ho]; · iexists f; iexact Ho
  isplitl [Hx]; · iexact Hx
  isplitl [Ht1 Ha1]
  · isplitl [Ht1]; · iexact Ht1
    iexact Ha1
  isplitl [HtS HtR]
  · iapply ht
    isplitl [HtS]; · iexact HtS
    iexact HtR
  isplitl [HcR HaR]
  · iapply hd
    isplitl [HcR]; · iexact HcR
    iexact HaR
  iapply hg; iexact HaS

/-- What the run ends with is what the launch asks back. -/
theorem post_of (c : Dev nD) : End m c ⊢ bodyPost m ρ c := by
  unfold End bodyPost Φ₁ Dat.owesAt Pipeline.owesWithin
  rw [show (dats m ρ 0 c).owed t0_0.succ = 0 from rfl]
  iintro ⟨⟨%W, HO⟩, Hf, Ho, Hx, HB, H1, HR, HS⟩
  isplitl [Hf Hx HB H1 HR HS]
  · isplitl [Hf]; · iexact Hf
    isplitl [Hx]; · iexact Hx
    isplitl [HB]; · iexact HB
    isplitl [H1]; · iexact H1
    isplitl [HR]; · iexact HR
    iexact HS
  isplitl [HO]
  · iexists W
    isplitr; · ipureintro; exact fun _ _ => Or.inl trivial
    iexact HO
  iexists (summed m c 16)
  isplitr; · (ipureintro; rfl)
  iexact Ho

/-- The body takes the one to the other. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (Memref.whole main_arg0) (Memref.isWhole_whole _) oM (Memref.isWhole_whole _) fM (Memref.isWhole_whole _)
      cc0_scratch1 cc0_scratch2 cc0_scratch3 cc0_scratch4 cc0_scratch5 cc0_scratch6 cc0_scratch7 cc0_scratch8 cc0_scratch9 cc0_scratch10 cc0_scratch11)
    (fun _ => bodyPost m ρ c)
  iintro H
  ihave HB := (begin_of m ρ c) $$ H
  icases HB with ⟨%K, HB⟩
  iapply (body_run (Q := fun _ => bodyPost m ρ c) m K c (post_of m ρ c))
  iexact HB

/-! ## The launch -/

/-- Every window is held whole. -/
theorem share_eq (c : Dev nD) (w : Fin cfg0.W) : (dats m ρ 0 c).share w = fullShare := by unfold Dat.share; split <;> rfl

/-- What the launch hands a device at first makes its start, -/
theorem start_intro (c : Dev nD) :
    iprop(Pipeline.unscopedRestP Pipeline.Prefetch.none cfg0.spec c (fun b => m ((c : Thread nD τ).loc b)) ∗ levAts L lv
        ∗ Pipeline.launchCred owedY c ∗ prngReg c (ρ c) ∗ G' m c)
      ⊢ |={Set.univ}=> iprop(start m c ∗ emp) := by
  have hx : Pipeline.unscopedRestP Pipeline.Prefetch.none cfg0.spec c (fun b => m ((c : Thread nD τ).loc b)) ⊢ (xL c ↦{fullShare} argOf m c : sProp 𝕄) :=
    Entails.of_eq ((Pipeline.unscopedRestP_none _ c _).trans (unscopedRest0_eq c _))
  iintro ⟨Hx, Hlev, Hcr, -, HG⟩
  ihave Hc := (creds (F := F) c) $$ Hcr
  ihave Hx := hx $$ Hx
  imodintro
  unfold start
  isplitl
  · isplitl [HG]; · iexact HG
    isplitl [Hc]; · iexact Hc
    isplitl [Hlev]; · iexact Hlev
    iexact Hx
  · iempintro

/-- and with the landing buffer what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What a device passes out of the launch: its barrier at zero and half a share of its input. -/
def left_ (c : Dev nD) : sProp 𝕄 := iprop(unscopedSems0 c ∗ (xL c ↦{fullShare.left} argOf m c))

/-- What the body ends with gives the launch back what it lent. -/
theorem phi1_exit (c : Dev nD) :
    (dats m ρ 0 c).Φ (Fin.last cfg0.N) ⊢ iprop(left_ m c ∗ Pipeline.ownSems0 osem c ∗ Pipeline.scopedRest cfg0.spec c) := by
  rw [show (dats m ρ 0 c).Φ (Fin.last cfg0.N) = Φ₁ m c from rfl, scopedRest0_eq]
  unfold Φ₁ left_
  rw [unscopedSems0_eq]
  iintro ⟨Hf, Hx, HB, H1, HR, HS⟩
  isplitl [HB Hx]
  · isplitl [HB]; · iexact HB
    iexact Hx
  isplitl [H1 HR HS]
  · iapply (ownSems0_of (F := F) c)
    isplitl [H1]; · iexact H1
    isplitl [HR]; · iexact HR
    iexact HS
  iexists (landed m c); iexact Hf

/-- The launch's own waits are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_start c _ (by fin_cases w; fin_cases s; decide +kernel)
    · show (levAts L lv : sProp 𝕄) ⊢ MayWait (c : Thread nD τ) _ () 0
      rw [MayWait_zero]; iintro -; iempintro

/-- The input, read off the final memory. -/
theorem read_left (c : Dev nD) (s' : Phys nD τ sig (Elt F)) :
    iprop(left_ m c ∗ emp ∗ SI s') ⊢ |={Set.univ}=>
      iprop(⌜(∀ sm : SemLoc sig, sm.isScoped .tc = false → s'.mem.sem ((c.tc : Thread nD τ), sm) = 0) ∧ s'.mem.mem (xL c) = m (xL c)⌝ ∗ SI (Ix := Unit) (Name := ℕ) (U := UU) (Lvl := ℕ) s') := by
  unfold left_
  iintro ⟨⟨Hu, Hx⟩, -, HSI⟩
  ihave #Hm := (SI_pointsTo_agree (st := s') (ℓ := xL c) (I := Finset.univ) (q := fullShare.left) (f := argOf m c)) $$ [HSI Hx]
  · isplitl [HSI] <;> iassumption
  icases Hm with %hm
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => hm i (Finset.mem_univ i)⟩
  iexact HSI

/-- What a window's array holds in the end. -/
def finalA (c : Dev nD) (w : Fin cfg0.W) : Buf (Elt F) ((cfg0.win w).arr.view.loc (c : Thread nD τ)) := (dats m ρ 0 c).arrAt w cfg0.N

/-- Every fair run of the program ends, the output written, the input as it was, and every semaphore at zero. -/
theorem run_raw : θ_run defs (onTc (τ := τ) (main (F := F))) (s₀ m ρ) (fun r =>
    (∀ c : Dev nD, (∀ w : Fin cfg0.W, r.2.mem ((cfg0.win w).arr.view.loc (c : Thread nD τ)) = finalA m ρ c w) ∧ r.2.mem (xL c) = m (xL c))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owedY) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left_ m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem (xL c) = m (xL c))
    (hY := read_left m)
    (hQ := fun _ h hs => ⟨fun c => ⟨(h c).1, (h c).2.2.2⟩, sem_eq_zero hs fun c => (h c).2.2.1⟩)

/-- The one block is the whole output, written back once. -/
theorem finalA_out (c : Dev nD) : finalA m ρ c (0 : Fin 1) = summed m c 16 := by
  unfold finalA
  refine (dats m ρ 0 c).arrAt_eq_of_cover (0 : Fin 1) (summed m c 16) (fun t _ => ?_) (fun i => ⟨t0_0, flush0_0 _, ?_⟩)
  · rw [fin_N0 t]
    funext j
    refine congrArg (summed m c 16) (funext fun a => Fin.ext ?_)
    match a with
    | ⟨0, _⟩ => show (j 0).val = 0 + 1 * (j 0).val; omega
    | ⟨1, _⟩ => show (j 1).val = 0 + 1 * (j 1).val; omega
  · show i ∈ ((View.whole main_v1).slice (win0_0.rect t0_0)).set
    rw [View.set_slice_whole, Rect.mem_set_unit]
    have h0 : (i 0).val < 4096 := (i 0).isLt
    have h1 : (i 1).val < 1024 := (i 1).isLt
    intro a
    match a with
    | ⟨0, _⟩ => exact ⟨Nat.zero_le _, h0⟩
    | ⟨1, _⟩ => exact ⟨Nat.zero_le _, h1⟩

/-- Every fair run ends with each device's output the sum of the columns it keeps and those its peer sent. -/
theorem run_main : θ_run defs (onTc (τ := τ) (main (F := F))) (s₀ m ρ) (fun r =>
    (∀ c : Dev nD, r.2.mem ((c : Thread nD τ).loc main_v1) = summed m c 16 ∧ r.2.mem ((c : Thread nD τ).loc main_arg0) = m ((c : Thread nD τ).loc main_arg0))
      ∧ r.2.sem = fun _ => 0) :=
  (θ_run defs _ _).mono (fun _ h => ⟨fun c => ⟨((h.1 c).1 (0 : Fin 1)).trans (finalA_out m ρ c), (h.1 c).2⟩, h.2⟩) (run_raw m ρ)

end Cert.Scatter
-- ==== Proof.Same.lean ====
/-
The two programs the claims name for the kernel, the printed one and its ideal form, have the same text: nothing in the
kernel is replaced when it is read on the extended reals.  So a run of the one is a run of the other.
-/
module

public import proofs.«01_k».proof.Proof.Gen.Kernel
public import proofs.«01_k».proof.Proof.Gen.KernelIdeal

@[expose] public section

set_option maxRecDepth 100000

noncomputable section

namespace Cert.Scatter

open Idealize.ShloMosaic

variable {F : FTy → Type} [FloatOps F]

/-- The host program of the ideal form is the printed one's. -/
theorem main_same : Cert.KernelIdeal.main (F := F) = Cert.Kernel.main (F := F) := rfl

/-- So is the kernel it launches, before the launch's windows are put round it. -/
theorem inner_same : Cert.KernelIdeal.defs₀ (F := F) = Cert.Kernel.defs₀ (F := F) := by
  unfold Cert.KernelIdeal.defs₀ Cert.Kernel.defs₀
  refine congrArg Defs.onTc ?_
  funext l x
  match l, x with
  | ⟨0, _⟩, (t, s) => rfl

/-- And with them. -/
theorem defs_same : Cert.KernelIdeal.defs (F := F) = Cert.Kernel.defs (F := F) :=
  congrArg (Pipeline.defs (Cert.Kernel.pcfgs (F := F))) inner_same

end Cert.Scatter
-- ==== Proof.Value.lean ====
/-
The value: what each device ends with is its columns of the sum over the first axis.

A device keeps one half of the columns of its own row block and adds what came across from the other row block.  The
reference adds the two row blocks to zero.  On the extended reals the two agree, the sum of two numbers being the same in
either order.
-/
module

public import proofs.«01_k».proof.Proof.Pieces
public import proofs.«01_k».proof.Proof.Gen.ReferenceIdeal
public import Idealize.ShloMosaic.Lib.Layout
public import Idealize.ShloMosaic.Lib.Pointwise.Reduce
public import Idealize.ShloMosaic.Lib.Pointwise.Index

@[expose] public section

set_option maxRecDepth 20000

noncomputable section

namespace Cert.Scatter

open Cert.Kernel
open Idealize.ShloMosaic
open Idealize.ShloMosaic.TcCoe

/-- The whole argument. -/
abbrev Whole : Type := (⟨3, ![2, 4096, 2048]⟩ : Shape).Idx → Elt Ideal .f32
/-- The sum of such an argument over its first axis. -/
abbrev Total : Type := (⟨2, ![4096, 2048]⟩ : Shape).Idx → Elt Ideal .f32

/-- An index into the whole argument. -/
def inAll (y r j : ℕ) : (⟨3, ![2, 4096, 2048]⟩ : Shape).Idx :=
  ix3 (⟨y % 2, Nat.mod_lt _ (by decide)⟩ : Fin 2) (⟨r % 4096, Nat.mod_lt _ (by decide)⟩ : Fin 4096) (⟨j % 2048, Nat.mod_lt _ (by decide)⟩ : Fin 2048)

/-- The reference's result. -/
def total (V : Whole) : Total :=
  Host.reduceAdd (F := Ideal) V (constant Cert.ReferenceIdeal.S_ .f32 0x00000000#32) Cert.ReferenceIdeal.Gen.reducesTo_S2x4096x2048_S4096x2048_d0 Cert.ReferenceIdeal.Gen.h_S_

/-- It is the sum of the two row blocks. -/
theorem total_at (V : Whole) (i : (⟨2, ![4096, 2048]⟩ : Shape).Idx) :
    total V i = (V (inAll 0 (i 0).val (i 1).val) + V (inAll 1 (i 0).val (i 1).val) : EReal) := by
  have h0 : (i 0).val < 4096 := (i 0).isLt
  have h1 : (i 1).val < 2048 := (i 1).isLt
  have e (y : Fin 2) : ix3 y (⟨(i 0).val, h0⟩ : Fin 4096) (⟨(i 1).val, h1⟩ : Fin 2048) = inAll y.val (i 0).val (i 1).val := by
    unfold inAll
    congr 1
    · exact Fin.ext (Nat.mod_eq_of_lt y.isLt).symm
    · exact Fin.ext (Nat.mod_eq_of_lt h0).symm
    · exact Fin.ext (Nat.mod_eq_of_lt h1).symm
  unfold total
  rw [Host.reduceAdd_apply, Ideal.hostReduceAdd_def, Ideal.hostReduceAdd_r3_a0, Fin.sum_univ_two]
  have f := (congrArg V (e 0)).symm
  have g := (congrArg V (e 1)).symm
  rw [show constant (F := Ideal) Cert.ReferenceIdeal.S_ .f32 0x00000000#32 (Shape.Idx.first Cert.ReferenceIdeal.Gen.h_S_) = (0 : EReal) from Ideal.ofBits_zero_f32, zero_add]
  exact (congrArg₂ (fun a b : EReal => a + b) f g).symm

variable (m : (ℓ : Loc nD τ sig) → Buf (Elt Ideal) ℓ) (V : Whole)

/-- Each device holds its row block of the argument. -/
def Holds : Prop := ∀ c : Dev nD, argOf m c = Layout.blockN ⟨3, ![1, 4096, 2048]⟩ ⟨3, ![2, 4096, 2048]⟩ (Layout.meshBlock [2, 2, 4] ![[1], [], []] c) V

/-- So a device's block at row `r` and column `j` is the whole argument there, in the row block of the device's `y`. -/
theorem argOf_at (h : Holds m V) (c : Dev nD) {r j : ℕ} (hr : r < 4096) (hj : j < 2048) : argOf m c (inAt r j) = V (inAll (yOf c) r j) := by
  rw [h c, Layout.blockN_apply]
  refine congrArg V (funext fun a => Fin.ext ?_)
  have hy := yOf_lt c
  rw [Layout.TilesN.idx_val]
  fin_cases a
  · change (c.val / 4 % 2 * 1 + 0) * 1 + 0 = yOf c % 2
    unfold yOf
    omega
  · change 0 * 4096 + r % 4096 = r % 4096
    omega
  · change 0 * 2048 + j % 2048 = j % 2048
    omega

/-- What a device ends with is its columns of the sum. -/
theorem summed_total (h : Holds m V) (c : Dev nD) :
    summed m c 16 = Layout.blockN ⟨2, ![4096, 1024]⟩ ⟨2, ![4096, 2048]⟩ (Layout.meshBlock [2, 2, 4] ![[], [1]] c) (total V) := by
  funext i
  have h0 : (i 0).val < 4096 := (i 0).isLt
  have h1 : (i 1).val < 1024 := (i 1).isLt
  have hy := yOf_lt c
  rw [summed_all, Layout.blockN_apply, total_at]
  unfold kept landed
  rw [argOf_at m V h c h0 (by omega), argOf_at m V h _ h0 (by omega), yOf_origin c _ (by omega) _ (by omega), Ideal.addf_def]
  have e0 : ((by decide : Layout.TilesN ⟨2, ![4096, 1024]⟩ ⟨2, ![4096, 2048]⟩ _).idx (Layout.meshBlock [2, 2, 4] ![[], [1]] c) i 0).val = (i 0).val := by
    rw [Layout.TilesN.idx_val]
    change 0 * 4096 + (i 0).val = (i 0).val
    omega
  have e1 : ((by decide : Layout.TilesN ⟨2, ![4096, 1024]⟩ ⟨2, ![4096, 2048]⟩ _).idx (Layout.meshBlock [2, 2, 4] ![[], [1]] c) i 1).val = 1024 * yOf c + (i 1).val := by
    rw [Layout.TilesN.idx_val]
    change (c.val / 4 % 2 * 1 + 0) * 1024 + (i 1).val = 1024 * yOf c + (i 1).val
    unfold yOf
    omega
  rw [e0, e1]
  rcases (by omega : yOf c = 0 ∨ yOf c = 1) with hc | hc
  · rw [hc]
  · rw [hc]
    exact add_comm (G := EReal) _ _

end Cert.Scatter
-- ==== Proof.lean ====
/-
The claims of the statement, put together.

The kernel's run, with what it leaves in its buffers and its semaphores, is `Cert.Scatter.run_main`
(Proof/Launch.lean), proved for both readings of the numbers at once.  The ideal form of the kernel has the printed text
(Proof/Same.lean), and what the devices end with is the reference's sum, cut along its columns (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

set_option maxRecDepth 100000

noncomputable section

namespace Cert.Proof

open Idealize.ShloMosaic Idealize.ShloMosaic.TcCoe Idealize.SL.Sem Cert.Kernel Cert.Scatter

/-- The run of the kernel's ideal form. -/
theorem run_ideal (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r =>
      (∀ c : Dev nD, r.2.mem ((c : Thread nD τ).loc main_v1) = summed m c 16 ∧ r.2.mem ((c : Thread nD τ).loc main_arg0) = m ((c : Thread nD τ).loc main_arg0))
        ∧ r.2.sem = fun _ => 0) := by
  rw [defs_same, main_same]
  exact run_main m ρ

/-- The kernel runs to the end, keeps its argument and leaves its semaphores at zero. -/
theorem frame_kernel : Cert.quiescent_Kernel := fun m ρ _ =>
  (θ_run (Cert.Kernel.defs (F := Bits)) _ _).mono (fun _ h => ⟨fun c => (h.1 c).2, h.2⟩) (run_main m ρ)

/-- So does its ideal form. -/
theorem frame_ideal : Cert.quiescent_KernelIdeal := fun m ρ _ =>
  (θ_run (Cert.KernelIdeal.defs (F := Ideal)) _ _).mono (fun _ h => ⟨fun c => (h.1 c).2, h.2⟩) (run_ideal m ρ)

/-- And the reference, which has no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run m ρ)

/-- From row blocks of one argument, every device of the ideal kernel ends with its columns of the reference's result. -/
theorem value : Cert.algebraic_KernelIdeal_ReferenceIdeal := by
  intro m ρ m' ρ' _ hagree
  refine ⟨total (m' (((0 : Dev Cert.ReferenceIdeal.nD).tc : Thread _ Cert.ReferenceIdeal.τ).loc Cert.ReferenceIdeal.main_arg0)), ?_, ?_⟩
  · exact (θ_run (Cert.KernelIdeal.defs (F := Ideal)) _ _).mono
      (fun _ h c => ⟨(h.1 c).1.trans (summed_total m _ hagree c), (h.1 c).2⟩) (run_ideal m ρ)
  · exact (θ_run (Cert.ReferenceIdeal.defs (F := Ideal)) _ _).mono (fun _ h => h 0) (Cert.ReferenceIdeal.Value.run m' ρ')

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
